-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S32x48x1536 : Shape := ⟨3, ![32, 48, 1536]⟩
abbrev S48x1536 : Shape := ⟨2, ![48, 1536]⟩
abbrev S2x32 : Shape := ⟨2, ![2, 32]⟩
abbrev S_ : Shape := ⟨0, ![]⟩
abbrev S1x48x1536 : Shape := ⟨3, ![1, 48, 1536]⟩
abbrev S1x1 : Shape := ⟨2, ![1, 1]⟩
abbrev S1x24x1536 : Shape := ⟨3, ![1, 24, 1536]⟩
abbrev S24x1536 : Shape := ⟨2, ![24, 1536]⟩
abbrev S32x24x1536 : Shape := ⟨3, ![32, 24, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S32x48x1536, .bf16⟩
  | .local _ .vmem, ⟨4, _⟩ => ⟨S32x48x1536, .bf16⟩
  | .local _ .vmem, ⟨5, _⟩ => ⟨S32x48x1536, .bf16⟩
  | .local _ .vmem, ⟨6, _⟩ => ⟨S48x1536, .bf16⟩
  | _, _ => ⟨S1536x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 259 → Bool
  | ⟨i, _⟩ => dmaSemScopedAt i

abbrev sig : RefSig :=
  (ofTc nBuf bufTy 1 259 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_130 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v136 : BitVec 32 := Scalar.addi v2 c1_i32_130
  let c32_i32_131 : BitVec 32 := 32#32
  let v137 : BitVec 32 := Scalar.remsi v136 c32_i32_131
  let c48_i32 : BitVec 32 := 48#32
  let v138 : BitVec 32 := Scalar.muli v137 c48_i32
  let v139 : Index := Scalar.indexCast v138
  let c0_132 : Index := 0#32
  ![v139.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c48_i32_315 : BitVec 32 := 48#32
  let v446 : BitVec 32 := Scalar.muli v2 c48_i32_315
  let v447 : Index := Scalar.indexCast v446
  let c0_316 : Index := 0#32
  ![v447.toNat, 0]
def k0_dev32 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_320 : BitVec 32 := 1#32
  let v454 : BitVec 32 := Scalar.addi v2 c1_i32_320
  let c32_i32_321 : BitVec 32 := 32#32
  let v455 : BitVec 32 := Scalar.remsi v454 c32_i32_321
  let c1_i32_328 : BitVec 32 := 1#32
  let v456 : BitVec 32 := Scalar.muli v455 c1_i32_328
  let v457 : BitVec 32 := Scalar.addi c0_i32_329 v456
  v457.toNat
def k0_dev33 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_334 : BitVec 32 := 2#32
  let v466 : BitVec 32 := Scalar.addi v2 c2_i32_334
  let c32_i32_335 : BitVec 32 := 32#32
  let v467 : BitVec 32 := Scalar.remsi v466 c32_i32_335
  let c1_i32_342 : BitVec 32 := 1#32
  let v468 : BitVec 32 := Scalar.muli v467 c1_i32_342
  let v469 : BitVec 32 := Scalar.addi c0_i32_343 v468
  v469.toNat
def k0_dev34 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_348 : BitVec 32 := 3#32
  let v478 : BitVec 32 := Scalar.addi v2 c3_i32_348
  let c32_i32_349 : BitVec 32 := 32#32
  let v479 : BitVec 32 := Scalar.remsi v478 c32_i32_349
  let c1_i32_356 : BitVec 32 := 1#32
  let v480 : BitVec 32 := Scalar.muli v479 c1_i32_356
  let v481 : BitVec 32 := Scalar.addi c0_i32_357 v480
  v481.toNat
def k0_dev35 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_362 : BitVec 32 := 4#32
  let v490 : BitVec 32 := Scalar.addi v2 c4_i32_362
  let c32_i32_363 : BitVec 32 := 32#32
  let v491 : BitVec 32 := Scalar.remsi v490 c32_i32_363
  let c1_i32_370 : BitVec 32 := 1#32
  let v492 : BitVec 32 := Scalar.muli v491 c1_i32_370
  let v493 : BitVec 32 := Scalar.addi c0_i32_371 v492
  v493.toNat
def k0_dev36 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_376 : BitVec 32 := 5#32
  let v502 : BitVec 32 := Scalar.addi v2 c5_i32_376
  let c32_i32_377 : BitVec 32 := 32#32
  let v503 : BitVec 32 := Scalar.remsi v502 c32_i32_377
  let c1_i32_384 : BitVec 32 := 1#32
  let v504 : BitVec 32 := Scalar.muli v503 c1_i32_384
  let v505 : BitVec 32 := Scalar.addi c0_i32_385 v504
  v505.toNat
def k0_dev37 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_390 : BitVec 32 := 6#32
  let v514 : BitVec 32 := Scalar.addi v2 c6_i32_390
  let c32_i32_391 : BitVec 32 := 32#32
  let v515 : BitVec 32 := Scalar.remsi v514 c32_i32_391
  let c1_i32_398 : BitVec 32 := 1#32
  let v516 : BitVec 32 := Scalar.muli v515 c1_i32_398
  let v517 : BitVec 32 := Scalar.addi c0_i32_399 v516
  v517.toNat
def k0_dev38 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_404 : BitVec 32 := 7#32
  let v526 : BitVec 32 := Scalar.addi v2 c7_i32_404
  let c32_i32_405 : BitVec 32 := 32#32
  let v527 : BitVec 32 := Scalar.remsi v526 c32_i32_405
  let c1_i32_412 : BitVec 32 := 1#32
  let v528 : BitVec 32 := Scalar.muli v527 c1_i32_412
  let v529 : BitVec 32 := Scalar.addi c0_i32_413 v528
  v529.toNat
def k0_dev39 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_418 : BitVec 32 := 8#32
  let v538 : BitVec 32 := Scalar.addi v2 c8_i32_418
  let c32_i32_419 : BitVec 32 := 32#32
  let v539 : BitVec 32 := Scalar.remsi v538 c32_i32_419
  let c1_i32_426 : BitVec 32 := 1#32
  let v540 : BitVec 32 := Scalar.muli v539 c1_i32_426
  let v541 : BitVec 32 := Scalar.addi c0_i32_427 v540
  v541.toNat
def k0_dev40 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_432 : BitVec 32 := 9#32
  let v550 : BitVec 32 := Scalar.addi v2 c9_i32_432
  let c32_i32_433 : BitVec 32 := 32#32
  let v551 : BitVec 32 := Scalar.remsi v550 c32_i32_433
  let c1_i32_440 : BitVec 32 := 1#32
  let v552 : BitVec 32 := Scalar.muli v551 c1_i32_440
  let v553 : BitVec 32 := Scalar.addi c0_i32_441 v552
  v553.toNat
def k0_dev41 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_446 : BitVec 32 := 10#32
  let v562 : BitVec 32 := Scalar.addi v2 c10_i32_446
  let c32_i32_447 : BitVec 32 := 32#32
  let v563 : BitVec 32 := Scalar.remsi v562 c32_i32_447
  let c1_i32_454 : BitVec 32 := 1#32
  let v564 : BitVec 32 := Scalar.muli v563 c1_i32_454
  let v565 : BitVec 32 := Scalar.addi c0_i32_455 v564
  v565.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_460 : BitVec 32 := 11#32
  let v574 : BitVec 32 := Scalar.addi v2 c11_i32_460
  let c32_i32_461 : BitVec 32 := 32#32
  let v575 : BitVec 32 := Scalar.remsi v574 c32_i32_461
  let c1_i32_468 : BitVec 32 := 1#32
  let v576 : BitVec 32 := Scalar.muli v575 c1_i32_468
  let v577 : BitVec 32 := Scalar.addi c0_i32_469 v576
  v577.toNat
def k0_dev43 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_474 : BitVec 32 := 12#32
  let v586 : BitVec 32 := Scalar.addi v2 c12_i32_474
  let c32_i32_475 : BitVec 32 := 32#32
  let v587 : BitVec 32 := Scalar.remsi v586 c32_i32_475
  let c1_i32_482 : BitVec 32 := 1#32
  let v588 : BitVec 32 := Scalar.muli v587 c1_i32_482
  let v589 : BitVec 32 := Scalar.addi c0_i32_483 v588
  v589.toNat
def k0_dev44 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_488 : BitVec 32 := 13#32
  let v598 : BitVec 32 := Scalar.addi v2 c13_i32_488
  let c32_i32_489 : BitVec 32 := 32#32
  let v599 : BitVec 32 := Scalar.remsi v598 c32_i32_489
  let c1_i32_496 : BitVec 32 := 1#32
  let v600 : BitVec 32 := Scalar.muli v599 c1_i32_496
  let v601 : BitVec 32 := Scalar.addi c0_i32_497 v600
  v601.toNat
def k0_dev45 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_502 : BitVec 32 := 14#32
  let v610 : BitVec 32 := Scalar.addi v2 c14_i32_502
  let c32_i32_503 : BitVec 32 := 32#32
  let v611 : BitVec 32 := Scalar.remsi v610 c32_i32_503
  let c1_i32_510 : BitVec 32 := 1#32
  let v612 : BitVec 32 := Scalar.muli v611 c1_i32_510
  let v613 : BitVec 32 := Scalar.addi c0_i32_511 v612
  v613.toNat
def k0_dev46 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_516 : BitVec 32 := 15#32
  let v622 : BitVec 32 := Scalar.addi v2 c15_i32_516
  let c32_i32_517 : BitVec 32 := 32#32
  let v623 : BitVec 32 := Scalar.remsi v622 c32_i32_517
  let c1_i32_524 : BitVec 32 := 1#32
  let v624 : BitVec 32 := Scalar.muli v623 c1_i32_524
  let v625 : BitVec 32 := Scalar.addi c0_i32_525 v624
  v625.toNat
def k0_dev47 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_530 : BitVec 32 := 16#32
  let v634 : BitVec 32 := Scalar.addi v2 c16_i32_530
  let c32_i32_531 : BitVec 32 := 32#32
  let v635 : BitVec 32 := Scalar.remsi v634 c32_i32_531
  let c1_i32_538 : BitVec 32 := 1#32
  let v636 : BitVec 32 := Scalar.muli v635 c1_i32_538
  let v637 : BitVec 32 := Scalar.addi c0_i32_539 v636
  v637.toNat
def k0_dev48 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_544 : BitVec 32 := 17#32
  let v646 : BitVec 32 := Scalar.addi v2 c17_i32_544
  let c32_i32_545 : BitVec 32 := 32#32
  let v647 : BitVec 32 := Scalar.remsi v646 c32_i32_545
  let c1_i32_552 : BitVec 32 := 1#32
  let v648 : BitVec 32 := Scalar.muli v647 c1_i32_552
  let v649 : BitVec 32 := Scalar.addi c0_i32_553 v648
  v649.toNat
def k0_dev49 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_558 : BitVec 32 := 18#32
  let v658 : BitVec 32 := Scalar.addi v2 c18_i32_558
  let c32_i32_559 : BitVec 32 := 32#32
  let v659 : BitVec 32 := Scalar.remsi v658 c32_i32_559
  let c1_i32_566 : BitVec 32 := 1#32
  let v660 : BitVec 32 := Scalar.muli v659 c1_i32_566
  let v661 : BitVec 32 := Scalar.addi c0_i32_567 v660
  v661.toNat
def k0_dev50 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_572 : BitVec 32 := 19#32
  let v670 : BitVec 32 := Scalar.addi v2 c19_i32_572
  let c32_i32_573 : BitVec 32 := 32#32
  let v671 : BitVec 32 := Scalar.remsi v670 c32_i32_573
  let c1_i32_580 : BitVec 32 := 1#32
  let v672 : BitVec 32 := Scalar.muli v671 c1_i32_580
  let v673 : BitVec 32 := Scalar.addi c0_i32_581 v672
  v673.toNat
def k0_dev51 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_586 : BitVec 32 := 20#32
  let v682 : BitVec 32 := Scalar.addi v2 c20_i32_586
  let c32_i32_587 : BitVec 32 := 32#32
  let v683 : BitVec 32 := Scalar.remsi v682 c32_i32_587
  let c1_i32_594 : BitVec 32 := 1#32
  let v684 : BitVec 32 := Scalar.muli v683 c1_i32_594
  let v685 : BitVec 32 := Scalar.addi c0_i32_595 v684
  v685.toNat
def k0_dev52 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_600 : BitVec 32 := 21#32
  let v694 : BitVec 32 := Scalar.addi v2 c21_i32_600
  let c32_i32_601 : BitVec 32 := 32#32
  let v695 : BitVec 32 := Scalar.remsi v694 c32_i32_601
  let c1_i32_608 : BitVec 32 := 1#32
  let v696 : BitVec 32 := Scalar.muli v695 c1_i32_608
  let v697 : BitVec 32 := Scalar.addi c0_i32_609 v696
  v697.toNat
def k0_dev53 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_614 : BitVec 32 := 22#32
  let v706 : BitVec 32 := Scalar.addi v2 c22_i32_614
  let c32_i32_615 : BitVec 32 := 32#32
  let v707 : BitVec 32 := Scalar.remsi v706 c32_i32_615
  let c1_i32_622 : BitVec 32 := 1#32
  let v708 : BitVec 32 := Scalar.muli v707 c1_i32_622
  let v709 : BitVec 32 := Scalar.addi c0_i32_623 v708
  v709.toNat
def k0_dev54 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_628 : BitVec 32 := 23#32
  let v718 : BitVec 32 := Scalar.addi v2 c23_i32_628
  let c32_i32_629 : BitVec 32 := 32#32
  let v719 : BitVec 32 := Scalar.remsi v718 c32_i32_629
  let c1_i32_636 : BitVec 32 := 1#32
  let v720 : BitVec 32 := Scalar.muli v719 c1_i32_636
  let v721 : BitVec 32 := Scalar.addi c0_i32_637 v720
  v721.toNat
def k0_dev55 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_642 : BitVec 32 := 24#32
  let v730 : BitVec 32 := Scalar.addi v2 c24_i32_642
  let c32_i32_643 : BitVec 32 := 32#32
  let v731 : BitVec 32 := Scalar.remsi v730 c32_i32_643
  let c1_i32_650 : BitVec 32 := 1#32
  let v732 : BitVec 32 := Scalar.muli v731 c1_i32_650
  let v733 : BitVec 32 := Scalar.addi c0_i32_651 v732
  v733.toNat
def k0_dev56 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_656 : BitVec 32 := 25#32
  let v742 : BitVec 32 := Scalar.addi v2 c25_i32_656
  let c32_i32_657 : BitVec 32 := 32#32
  let v743 : BitVec 32 := Scalar.remsi v742 c32_i32_657
  let c1_i32_664 : BitVec 32 := 1#32
  let v744 : BitVec 32 := Scalar.muli v743 c1_i32_664
  let v745 : BitVec 32 := Scalar.addi c0_i32_665 v744
  v745.toNat
def k0_dev57 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_670 : BitVec 32 := 26#32
  let v754 : BitVec 32 := Scalar.addi v2 c26_i32_670
  let c32_i32_671 : BitVec 32 := 32#32
  let v755 : BitVec 32 := Scalar.remsi v754 c32_i32_671
  let c1_i32_678 : BitVec 32 := 1#32
  let v756 : BitVec 32 := Scalar.muli v755 c1_i32_678
  let v757 : BitVec 32 := Scalar.addi c0_i32_679 v756
  v757.toNat
def k0_dev58 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_684 : BitVec 32 := 27#32
  let v766 : BitVec 32 := Scalar.addi v2 c27_i32_684
  let c32_i32_685 : BitVec 32 := 32#32
  let v767 : BitVec 32 := Scalar.remsi v766 c32_i32_685
  let c1_i32_692 : BitVec 32 := 1#32
  let v768 : BitVec 32 := Scalar.muli v767 c1_i32_692
  let v769 : BitVec 32 := Scalar.addi c0_i32_693 v768
  v769.toNat
def k0_dev59 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_698 : BitVec 32 := 28#32
  let v778 : BitVec 32 := Scalar.addi v2 c28_i32_698
  let c32_i32_699 : BitVec 32 := 32#32
  let v779 : BitVec 32 := Scalar.remsi v778 c32_i32_699
  let c1_i32_706 : BitVec 32 := 1#32
  let v780 : BitVec 32 := Scalar.muli v779 c1_i32_706
  let v781 : BitVec 32 := Scalar.addi c0_i32_707 v780
  v781.toNat
def k0_dev60 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_712 : BitVec 32 := 29#32
  let v790 : BitVec 32 := Scalar.addi v2 c29_i32_712
  let c32_i32_713 : BitVec 32 := 32#32
  let v791 : BitVec 32 := Scalar.remsi v790 c32_i32_713
  let c1_i32_720 : BitVec 32 := 1#32
  let v792 : BitVec 32 := Scalar.muli v791 c1_i32_720
  let v793 : BitVec 32 := Scalar.addi c0_i32_721 v792
  v793.toNat
def k0_dev61 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_726 : BitVec 32 := 30#32
  let v802 : BitVec 32 := Scalar.addi v2 c30_i32_726
  let c32_i32_727 : BitVec 32 := 32#32
  let v803 : BitVec 32 := Scalar.remsi v802 c32_i32_727
  let c1_i32_734 : BitVec 32 := 1#32
  let v804 : BitVec 32 := Scalar.muli v803 c1_i32_734
  let v805 : BitVec 32 := Scalar.addi c0_i32_735 v804
  v805.toNat
def k0_dev62 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_740 : BitVec 32 := 31#32
  let v814 : BitVec 32 := Scalar.addi v2 c31_i32_740
  let c32_i32_741 : BitVec 32 := 32#32
  let v815 : BitVec 32 := Scalar.remsi v814 c32_i32_741
  let c1_i32_748 : BitVec 32 := 1#32
  let v816 : BitVec 32 := Scalar.muli v815 c1_i32_748
  let v817 : BitVec 32 := Scalar.addi c0_i32_749 v816
  v817.toNat
def k0_dev63 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_754 : BitVec 32 := 1#32
  let v826 : BitVec 32 := Scalar.addi v2 c1_i32_754
  let c32_i32_755 : BitVec 32 := 32#32
  let v827 : BitVec 32 := Scalar.remsi v826 c32_i32_755
  let c1_i32_762 : BitVec 32 := 1#32
  let v828 : BitVec 32 := Scalar.muli v827 c1_i32_762
  let v829 : BitVec 32 := Scalar.addi c0_i32_763 v828
  v829.toNat
def k0_dev64 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_768 : BitVec 32 := 2#32
  let v838 : BitVec 32 := Scalar.addi v2 c2_i32_768
  let c32_i32_769 : BitVec 32 := 32#32
  let v839 : BitVec 32 := Scalar.remsi v838 c32_i32_769
  let c1_i32_776 : BitVec 32 := 1#32
  let v840 : BitVec 32 := Scalar.muli v839 c1_i32_776
  let v841 : BitVec 32 := Scalar.addi c0_i32_777 v840
  v841.toNat
def k0_dev65 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_782 : BitVec 32 := 3#32
  let v850 : BitVec 32 := Scalar.addi v2 c3_i32_782
  let c32_i32_783 : BitVec 32 := 32#32
  let v851 : BitVec 32 := Scalar.remsi v850 c32_i32_783
  let c1_i32_790 : BitVec 32 := 1#32
  let v852 : BitVec 32 := Scalar.muli v851 c1_i32_790
  let v853 : BitVec 32 := Scalar.addi c0_i32_791 v852
  v853.toNat
def k0_dev66 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_796 : BitVec 32 := 4#32
  let v862 : BitVec 32 := Scalar.addi v2 c4_i32_796
  let c32_i32_797 : BitVec 32 := 32#32
  let v863 : BitVec 32 := Scalar.remsi v862 c32_i32_797
  let c1_i32_804 : BitVec 32 := 1#32
  let v864 : BitVec 32 := Scalar.muli v863 c1_i32_804
  let v865 : BitVec 32 := Scalar.addi c0_i32_805 v864
  v865.toNat
def k0_dev67 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_810 : BitVec 32 := 5#32
  let v874 : BitVec 32 := Scalar.addi v2 c5_i32_810
  let c32_i32_811 : BitVec 32 := 32#32
  let v875 : BitVec 32 := Scalar.remsi v874 c32_i32_811
  let c1_i32_818 : BitVec 32 := 1#32
  let v876 : BitVec 32 := Scalar.muli v875 c1_i32_818
  let v877 : BitVec 32 := Scalar.addi c0_i32_819 v876
  v877.toNat
def k0_dev68 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_824 : BitVec 32 := 6#32
  let v886 : BitVec 32 := Scalar.addi v2 c6_i32_824
  let c32_i32_825 : BitVec 32 := 32#32
  let v887 : BitVec 32 := Scalar.remsi v886 c32_i32_825
  let c1_i32_832 : BitVec 32 := 1#32
  let v888 : BitVec 32 := Scalar.muli v887 c1_i32_832
  let v889 : BitVec 32 := Scalar.addi c0_i32_833 v888
  v889.toNat
def k0_dev69 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_838 : BitVec 32 := 7#32
  let v898 : BitVec 32 := Scalar.addi v2 c7_i32_838
  let c32_i32_839 : BitVec 32 := 32#32
  let v899 : BitVec 32 := Scalar.remsi v898 c32_i32_839
  let c1_i32_846 : BitVec 32 := 1#32
  let v900 : BitVec 32 := Scalar.muli v899 c1_i32_846
  let v901 : BitVec 32 := Scalar.addi c0_i32_847 v900
  v901.toNat
def k0_dev70 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_852 : BitVec 32 := 8#32
  let v910 : BitVec 32 := Scalar.addi v2 c8_i32_852
  let c32_i32_853 : BitVec 32 := 32#32
  let v911 : BitVec 32 := Scalar.remsi v910 c32_i32_853
  let c1_i32_860 : BitVec 32 := 1#32
  let v912 : BitVec 32 := Scalar.muli v911 c1_i32_860
  let v913 : BitVec 32 := Scalar.addi c0_i32_861 v912
  v913.toNat
def k0_dev71 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_866 : BitVec 32 := 9#32
  let v922 : BitVec 32 := Scalar.addi v2 c9_i32_866
  let c32_i32_867 : BitVec 32 := 32#32
  let v923 : BitVec 32 := Scalar.remsi v922 c32_i32_867
  let c1_i32_874 : BitVec 32 := 1#32
  let v924 : BitVec 32 := Scalar.muli v923 c1_i32_874
  let v925 : BitVec 32 := Scalar.addi c0_i32_875 v924
  v925.toNat
def k0_dev72 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_880 : BitVec 32 := 10#32
  let v934 : BitVec 32 := Scalar.addi v2 c10_i32_880
  let c32_i32_881 : BitVec 32 := 32#32
  let v935 : BitVec 32 := Scalar.remsi v934 c32_i32_881
  let c1_i32_888 : BitVec 32 := 1#32
  let v936 : BitVec 32 := Scalar.muli v935 c1_i32_888
  let v937 : BitVec 32 := Scalar.addi c0_i32_889 v936
  v937.toNat
def k0_dev73 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_894 : BitVec 32 := 11#32
  let v946 : BitVec 32 := Scalar.addi v2 c11_i32_894
  let c32_i32_895 : BitVec 32 := 32#32
  let v947 : BitVec 32 := Scalar.remsi v946 c32_i32_895
  let c1_i32_902 : BitVec 32 := 1#32
  let v948 : BitVec 32 := Scalar.muli v947 c1_i32_902
  let v949 : BitVec 32 := Scalar.addi c0_i32_903 v948
  v949.toNat
def k0_dev74 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_908 : BitVec 32 := 12#32
  let v958 : BitVec 32 := Scalar.addi v2 c12_i32_908
  let c32_i32_909 : BitVec 32 := 32#32
  let v959 : BitVec 32 := Scalar.remsi v958 c32_i32_909
  let c1_i32_916 : BitVec 32 := 1#32
  let v960 : BitVec 32 := Scalar.muli v959 c1_i32_916
  let v961 : BitVec 32 := Scalar.addi c0_i32_917 v960
  v961.toNat
def k0_dev75 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_922 : BitVec 32 := 13#32
  let v970 : BitVec 32 := Scalar.addi v2 c13_i32_922
  let c32_i32_923 : BitVec 32 := 32#32
  let v971 : BitVec 32 := Scalar.remsi v970 c32_i32_923
  let c1_i32_930 : BitVec 32 := 1#32
  let v972 : BitVec 32 := Scalar.muli v971 c1_i32_930
  let v973 : BitVec 32 := Scalar.addi c0_i32_931 v972
  v973.toNat
def k0_dev76 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_936 : BitVec 32 := 14#32
  let v982 : BitVec 32 := Scalar.addi v2 c14_i32_936
  let c32_i32_937 : BitVec 32 := 32#32
  let v983 : BitVec 32 := Scalar.remsi v982 c32_i32_937
  let c1_i32_944 : BitVec 32 := 1#32
  let v984 : BitVec 32 := Scalar.muli v983 c1_i32_944
  let v985 : BitVec 32 := Scalar.addi c0_i32_945 v984
  v985.toNat
def k0_dev77 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_950 : BitVec 32 := 15#32
  let v994 : BitVec 32 := Scalar.addi v2 c15_i32_950
  let c32_i32_951 : BitVec 32 := 32#32
  let v995 : BitVec 32 := Scalar.remsi v994 c32_i32_951
  let c1_i32_958 : BitVec 32 := 1#32
  let v996 : BitVec 32 := Scalar.muli v995 c1_i32_958
  let v997 : BitVec 32 := Scalar.addi c0_i32_959 v996
  v997.toNat
def k0_dev78 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_964 : BitVec 32 := 16#32
  let v1006 : BitVec 32 := Scalar.addi v2 c16_i32_964
  let c32_i32_965 : BitVec 32 := 32#32
  let v1007 : BitVec 32 := Scalar.remsi v1006 c32_i32_965
  let c1_i32_972 : BitVec 32 := 1#32
  let v1008 : BitVec 32 := Scalar.muli v1007 c1_i32_972
  let v1009 : BitVec 32 := Scalar.addi c0_i32_973 v1008
  v1009.toNat
def k0_dev79 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_978 : BitVec 32 := 17#32
  let v1018 : BitVec 32 := Scalar.addi v2 c17_i32_978
  let c32_i32_979 : BitVec 32 := 32#32
  let v1019 : BitVec 32 := Scalar.remsi v1018 c32_i32_979
  let c1_i32_986 : BitVec 32 := 1#32
  let v1020 : BitVec 32 := Scalar.muli v1019 c1_i32_986
  let v1021 : BitVec 32 := Scalar.addi c0_i32_987 v1020
  v1021.toNat
def k0_dev80 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_992 : BitVec 32 := 18#32
  let v1030 : BitVec 32 := Scalar.addi v2 c18_i32_992
  let c32_i32_993 : BitVec 32 := 32#32
  let v1031 : BitVec 32 := Scalar.remsi v1030 c32_i32_993
  let c1_i32_1000 : BitVec 32 := 1#32
  let v1032 : BitVec 32 := Scalar.muli v1031 c1_i32_1000
  let v1033 : BitVec 32 := Scalar.addi c0_i32_1001 v1032
  v1033.toNat
def k0_dev81 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1006 : BitVec 32 := 19#32
  let v1042 : BitVec 32 := Scalar.addi v2 c19_i32_1006
  let c32_i32_1007 : BitVec 32 := 32#32
  let v1043 : BitVec 32 := Scalar.remsi v1042 c32_i32_1007
  let c1_i32_1014 : BitVec 32 := 1#32
  let v1044 : BitVec 32 := Scalar.muli v1043 c1_i32_1014
  let v1045 : BitVec 32 := Scalar.addi c0_i32_1015 v1044
  v1045.toNat
def k0_dev82 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1020 : BitVec 32 := 20#32
  let v1054 : BitVec 32 := Scalar.addi v2 c20_i32_1020
  let c32_i32_1021 : BitVec 32 := 32#32
  let v1055 : BitVec 32 := Scalar.remsi v1054 c32_i32_1021
  let c1_i32_1028 : BitVec 32 := 1#32
  let v1056 : BitVec 32 := Scalar.muli v1055 c1_i32_1028
  let v1057 : BitVec 32 := Scalar.addi c0_i32_1029 v1056
  v1057.toNat
def k0_dev83 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1034 : BitVec 32 := 21#32
  let v1066 : BitVec 32 := Scalar.addi v2 c21_i32_1034
  let c32_i32_1035 : BitVec 32 := 32#32
  let v1067 : BitVec 32 := Scalar.remsi v1066 c32_i32_1035
  let c1_i32_1042 : BitVec 32 := 1#32
  let v1068 : BitVec 32 := Scalar.muli v1067 c1_i32_1042
  let v1069 : BitVec 32 := Scalar.addi c0_i32_1043 v1068
  v1069.toNat
def k0_dev84 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1048 : BitVec 32 := 22#32
  let v1078 : BitVec 32 := Scalar.addi v2 c22_i32_1048
  let c32_i32_1049 : BitVec 32 := 32#32
  let v1079 : BitVec 32 := Scalar.remsi v1078 c32_i32_1049
  let c1_i32_1056 : BitVec 32 := 1#32
  let v1080 : BitVec 32 := Scalar.muli v1079 c1_i32_1056
  let v1081 : BitVec 32 := Scalar.addi c0_i32_1057 v1080
  v1081.toNat
def k0_dev85 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1062 : BitVec 32 := 23#32
  let v1090 : BitVec 32 := Scalar.addi v2 c23_i32_1062
  let c32_i32_1063 : BitVec 32 := 32#32
  let v1091 : BitVec 32 := Scalar.remsi v1090 c32_i32_1063
  let c1_i32_1070 : BitVec 32 := 1#32
  let v1092 : BitVec 32 := Scalar.muli v1091 c1_i32_1070
  let v1093 : BitVec 32 := Scalar.addi c0_i32_1071 v1092
  v1093.toNat
def k0_dev86 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1076 : BitVec 32 := 24#32
  let v1102 : BitVec 32 := Scalar.addi v2 c24_i32_1076
  let c32_i32_1077 : BitVec 32 := 32#32
  let v1103 : BitVec 32 := Scalar.remsi v1102 c32_i32_1077
  let c1_i32_1084 : BitVec 32 := 1#32
  let v1104 : BitVec 32 := Scalar.muli v1103 c1_i32_1084
  let v1105 : BitVec 32 := Scalar.addi c0_i32_1085 v1104
  v1105.toNat
def k0_dev87 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1090 : BitVec 32 := 25#32
  let v1114 : BitVec 32 := Scalar.addi v2 c25_i32_1090
  let c32_i32_1091 : BitVec 32 := 32#32
  let v1115 : BitVec 32 := Scalar.remsi v1114 c32_i32_1091
  let c1_i32_1098 : BitVec 32 := 1#32
  let v1116 : BitVec 32 := Scalar.muli v1115 c1_i32_1098
  let v1117 : BitVec 32 := Scalar.addi c0_i32_1099 v1116
  v1117.toNat
def k0_dev88 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1104 : BitVec 32 := 26#32
  let v1126 : BitVec 32 := Scalar.addi v2 c26_i32_1104
  let c32_i32_1105 : BitVec 32 := 32#32
  let v1127 : BitVec 32 := Scalar.remsi v1126 c32_i32_1105
  let c1_i32_1112 : BitVec 32 := 1#32
  let v1128 : BitVec 32 := Scalar.muli v1127 c1_i32_1112
  let v1129 : BitVec 32 := Scalar.addi c0_i32_1113 v1128
  v1129.toNat
def k0_dev89 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1118 : BitVec 32 := 27#32
  let v1138 : BitVec 32 := Scalar.addi v2 c27_i32_1118
  let c32_i32_1119 : BitVec 32 := 32#32
  let v1139 : BitVec 32 := Scalar.remsi v1138 c32_i32_1119
  let c1_i32_1126 : BitVec 32 := 1#32
  let v1140 : BitVec 32 := Scalar.muli v1139 c1_i32_1126
  let v1141 : BitVec 32 := Scalar.addi c0_i32_1127 v1140
  v1141.toNat
def k0_dev90 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1132 : BitVec 32 := 28#32
  let v1150 : BitVec 32 := Scalar.addi v2 c28_i32_1132
  let c32_i32_1133 : BitVec 32 := 32#32
  let v1151 : BitVec 32 := Scalar.remsi v1150 c32_i32_1133
  let c1_i32_1140 : BitVec 32 := 1#32
  let v1152 : BitVec 32 := Scalar.muli v1151 c1_i32_1140
  let v1153 : BitVec 32 := Scalar.addi c0_i32_1141 v1152
  v1153.toNat
def k0_dev91 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1146 : BitVec 32 := 29#32
  let v1162 : BitVec 32 := Scalar.addi v2 c29_i32_1146
  let c32_i32_1147 : BitVec 32 := 32#32
  let v1163 : BitVec 32 := Scalar.remsi v1162 c32_i32_1147
  let c1_i32_1154 : BitVec 32 := 1#32
  let v1164 : BitVec 32 := Scalar.muli v1163 c1_i32_1154
  let v1165 : BitVec 32 := Scalar.addi c0_i32_1155 v1164
  v1165.toNat
def k0_dev92 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1160 : BitVec 32 := 30#32
  let v1174 : BitVec 32 := Scalar.addi v2 c30_i32_1160
  let c32_i32_1161 : BitVec 32 := 32#32
  let v1175 : BitVec 32 := Scalar.remsi v1174 c32_i32_1161
  let c1_i32_1168 : BitVec 32 := 1#32
  let v1176 : BitVec 32 := Scalar.muli v1175 c1_i32_1168
  let v1177 : BitVec 32 := Scalar.addi c0_i32_1169 v1176
  v1177.toNat
def k0_dev93 (d0 : Dev nD) : Nat :=
  let c0_i32_1183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1174 : BitVec 32 := 31#32
  let v1186 : BitVec 32 := Scalar.addi v2 c31_i32_1174
  let c32_i32_1175 : BitVec 32 := 32#32
  let v1187 : BitVec 32 := Scalar.remsi v1186 c32_i32_1175
  let c1_i32_1182 : BitVec 32 := 1#32
  let v1188 : BitVec 32 := Scalar.muli v1187 c1_i32_1182
  let v1189 : BitVec 32 := Scalar.addi c0_i32_1183 v1188
  v1189.toNat
def k0_off3 (d0 : Dev nD) (c0_i32_1629 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c48_i32_1628 : BitVec 32 := 48#32
  let v1515 : BitVec 32 := Scalar.muli v2 c48_i32_1628
  let v1516 : BitVec 32 := Scalar.addi v1515 c0_i32_1629
  let v1517 : Index := Scalar.indexCast v1516
  let c0_1630 : Index := 0#32
  ![v1517.toNat, 0]
def k0_dev94 (d0 : Dev nD) : Nat :=
  let c0_i32_1639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1631 : BitVec 32 := 1#32
  let v1519 : BitVec 32 := Scalar.addi v2 c1_i32_1631
  let c32_i32_1632 : BitVec 32 := 32#32
  let v1520 : BitVec 32 := Scalar.remsi v1519 c32_i32_1632
  let c1_i32_1638 : BitVec 32 := 1#32
  let v1521 : BitVec 32 := Scalar.muli v1520 c1_i32_1638
  let v1522 : BitVec 32 := Scalar.addi c0_i32_1639 v1521
  v1522.toNat
def k0_dev95 (d0 : Dev nD) : Nat :=
  let c0_i32_1652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1644 : BitVec 32 := 2#32
  let v1530 : BitVec 32 := Scalar.addi v2 c2_i32_1644
  let c32_i32_1645 : BitVec 32 := 32#32
  let v1531 : BitVec 32 := Scalar.remsi v1530 c32_i32_1645
  let c1_i32_1651 : BitVec 32 := 1#32
  let v1532 : BitVec 32 := Scalar.muli v1531 c1_i32_1651
  let v1533 : BitVec 32 := Scalar.addi c0_i32_1652 v1532
  v1533.toNat
def k0_dev96 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1657 : BitVec 32 := 3#32
  let v1541 : BitVec 32 := Scalar.addi v2 c3_i32_1657
  let c32_i32_1658 : BitVec 32 := 32#32
  let v1542 : BitVec 32 := Scalar.remsi v1541 c32_i32_1658
  let c1_i32_1664 : BitVec 32 := 1#32
  let v1543 : BitVec 32 := Scalar.muli v1542 c1_i32_1664
  let v1544 : BitVec 32 := Scalar.addi c0_i32_1665 v1543
  v1544.toNat
def k0_dev97 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1670 : BitVec 32 := 4#32
  let v1552 : BitVec 32 := Scalar.addi v2 c4_i32_1670
  let c32_i32_1671 : BitVec 32 := 32#32
  let v1553 : BitVec 32 := Scalar.remsi v1552 c32_i32_1671
  let c1_i32_1677 : BitVec 32 := 1#32
  let v1554 : BitVec 32 := Scalar.muli v1553 c1_i32_1677
  let v1555 : BitVec 32 := Scalar.addi c0_i32_1678 v1554
  v1555.toNat
def k0_dev98 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1683 : BitVec 32 := 5#32
  let v1563 : BitVec 32 := Scalar.addi v2 c5_i32_1683
  let c32_i32_1684 : BitVec 32 := 32#32
  let v1564 : BitVec 32 := Scalar.remsi v1563 c32_i32_1684
  let c1_i32_1690 : BitVec 32 := 1#32
  let v1565 : BitVec 32 := Scalar.muli v1564 c1_i32_1690
  let v1566 : BitVec 32 := Scalar.addi c0_i32_1691 v1565
  v1566.toNat
def k0_dev99 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1696 : BitVec 32 := 6#32
  let v1574 : BitVec 32 := Scalar.addi v2 c6_i32_1696
  let c32_i32_1697 : BitVec 32 := 32#32
  let v1575 : BitVec 32 := Scalar.remsi v1574 c32_i32_1697
  let c1_i32_1703 : BitVec 32 := 1#32
  let v1576 : BitVec 32 := Scalar.muli v1575 c1_i32_1703
  let v1577 : BitVec 32 := Scalar.addi c0_i32_1704 v1576
  v1577.toNat
def k0_dev100 (d0 : Dev nD) : Nat :=
  let c0_i32_1717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1709 : BitVec 32 := 7#32
  let v1585 : BitVec 32 := Scalar.addi v2 c7_i32_1709
  let c32_i32_1710 : BitVec 32 := 32#32
  let v1586 : BitVec 32 := Scalar.remsi v1585 c32_i32_1710
  let c1_i32_1716 : BitVec 32 := 1#32
  let v1587 : BitVec 32 := Scalar.muli v1586 c1_i32_1716
  let v1588 : BitVec 32 := Scalar.addi c0_i32_1717 v1587
  v1588.toNat
def k0_dev101 (d0 : Dev nD) : Nat :=
  let c0_i32_1730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1722 : BitVec 32 := 8#32
  let v1596 : BitVec 32 := Scalar.addi v2 c8_i32_1722
  let c32_i32_1723 : BitVec 32 := 32#32
  let v1597 : BitVec 32 := Scalar.remsi v1596 c32_i32_1723
  let c1_i32_1729 : BitVec 32 := 1#32
  let v1598 : BitVec 32 := Scalar.muli v1597 c1_i32_1729
  let v1599 : BitVec 32 := Scalar.addi c0_i32_1730 v1598
  v1599.toNat
def k0_dev102 (d0 : Dev nD) : Nat :=
  let c0_i32_1743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1735 : BitVec 32 := 9#32
  let v1607 : BitVec 32 := Scalar.addi v2 c9_i32_1735
  let c32_i32_1736 : BitVec 32 := 32#32
  let v1608 : BitVec 32 := Scalar.remsi v1607 c32_i32_1736
  let c1_i32_1742 : BitVec 32 := 1#32
  let v1609 : BitVec 32 := Scalar.muli v1608 c1_i32_1742
  let v1610 : BitVec 32 := Scalar.addi c0_i32_1743 v1609
  v1610.toNat
def k0_dev103 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1748 : BitVec 32 := 10#32
  let v1618 : BitVec 32 := Scalar.addi v2 c10_i32_1748
  let c32_i32_1749 : BitVec 32 := 32#32
  let v1619 : BitVec 32 := Scalar.remsi v1618 c32_i32_1749
  let c1_i32_1755 : BitVec 32 := 1#32
  let v1620 : BitVec 32 := Scalar.muli v1619 c1_i32_1755
  let v1621 : BitVec 32 := Scalar.addi c0_i32_1756 v1620
  v1621.toNat
def k0_dev104 (d0 : Dev nD) : Nat :=
  let c0_i32_1769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1761 : BitVec 32 := 11#32
  let v1629 : BitVec 32 := Scalar.addi v2 c11_i32_1761
  let c32_i32_1762 : BitVec 32 := 32#32
  let v1630 : BitVec 32 := Scalar.remsi v1629 c32_i32_1762
  let c1_i32_1768 : BitVec 32 := 1#32
  let v1631 : BitVec 32 := Scalar.muli v1630 c1_i32_1768
  let v1632 : BitVec 32 := Scalar.addi c0_i32_1769 v1631
  v1632.toNat
def k0_dev105 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1774 : BitVec 32 := 12#32
  let v1640 : BitVec 32 := Scalar.addi v2 c12_i32_1774
  let c32_i32_1775 : BitVec 32 := 32#32
  let v1641 : BitVec 32 := Scalar.remsi v1640 c32_i32_1775
  let c1_i32_1781 : BitVec 32 := 1#32
  let v1642 : BitVec 32 := Scalar.muli v1641 c1_i32_1781
  let v1643 : BitVec 32 := Scalar.addi c0_i32_1782 v1642
  v1643.toNat
def k0_dev106 (d0 : Dev nD) : Nat :=
  let c0_i32_1795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1787 : BitVec 32 := 13#32
  let v1651 : BitVec 32 := Scalar.addi v2 c13_i32_1787
  let c32_i32_1788 : BitVec 32 := 32#32
  let v1652 : BitVec 32 := Scalar.remsi v1651 c32_i32_1788
  let c1_i32_1794 : BitVec 32 := 1#32
  let v1653 : BitVec 32 := Scalar.muli v1652 c1_i32_1794
  let v1654 : BitVec 32 := Scalar.addi c0_i32_1795 v1653
  v1654.toNat
def k0_dev107 (d0 : Dev nD) : Nat :=
  let c0_i32_1808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1800 : BitVec 32 := 14#32
  let v1662 : BitVec 32 := Scalar.addi v2 c14_i32_1800
  let c32_i32_1801 : BitVec 32 := 32#32
  let v1663 : BitVec 32 := Scalar.remsi v1662 c32_i32_1801
  let c1_i32_1807 : BitVec 32 := 1#32
  let v1664 : BitVec 32 := Scalar.muli v1663 c1_i32_1807
  let v1665 : BitVec 32 := Scalar.addi c0_i32_1808 v1664
  v1665.toNat
def k0_dev108 (d0 : Dev nD) : Nat :=
  let c0_i32_1821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1813 : BitVec 32 := 15#32
  let v1673 : BitVec 32 := Scalar.addi v2 c15_i32_1813
  let c32_i32_1814 : BitVec 32 := 32#32
  let v1674 : BitVec 32 := Scalar.remsi v1673 c32_i32_1814
  let c1_i32_1820 : BitVec 32 := 1#32
  let v1675 : BitVec 32 := Scalar.muli v1674 c1_i32_1820
  let v1676 : BitVec 32 := Scalar.addi c0_i32_1821 v1675
  v1676.toNat
def k0_dev109 (d0 : Dev nD) : Nat :=
  let c0_i32_1834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1826 : BitVec 32 := 16#32
  let v1684 : BitVec 32 := Scalar.addi v2 c16_i32_1826
  let c32_i32_1827 : BitVec 32 := 32#32
  let v1685 : BitVec 32 := Scalar.remsi v1684 c32_i32_1827
  let c1_i32_1833 : BitVec 32 := 1#32
  let v1686 : BitVec 32 := Scalar.muli v1685 c1_i32_1833
  let v1687 : BitVec 32 := Scalar.addi c0_i32_1834 v1686
  v1687.toNat
def k0_dev110 (d0 : Dev nD) : Nat :=
  let c0_i32_1847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1839 : BitVec 32 := 17#32
  let v1695 : BitVec 32 := Scalar.addi v2 c17_i32_1839
  let c32_i32_1840 : BitVec 32 := 32#32
  let v1696 : BitVec 32 := Scalar.remsi v1695 c32_i32_1840
  let c1_i32_1846 : BitVec 32 := 1#32
  let v1697 : BitVec 32 := Scalar.muli v1696 c1_i32_1846
  let v1698 : BitVec 32 := Scalar.addi c0_i32_1847 v1697
  v1698.toNat
def k0_dev111 (d0 : Dev nD) : Nat :=
  let c0_i32_1860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1852 : BitVec 32 := 18#32
  let v1706 : BitVec 32 := Scalar.addi v2 c18_i32_1852
  let c32_i32_1853 : BitVec 32 := 32#32
  let v1707 : BitVec 32 := Scalar.remsi v1706 c32_i32_1853
  let c1_i32_1859 : BitVec 32 := 1#32
  let v1708 : BitVec 32 := Scalar.muli v1707 c1_i32_1859
  let v1709 : BitVec 32 := Scalar.addi c0_i32_1860 v1708
  v1709.toNat
def k0_dev112 (d0 : Dev nD) : Nat :=
  let c0_i32_1873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1865 : BitVec 32 := 19#32
  let v1717 : BitVec 32 := Scalar.addi v2 c19_i32_1865
  let c32_i32_1866 : BitVec 32 := 32#32
  let v1718 : BitVec 32 := Scalar.remsi v1717 c32_i32_1866
  let c1_i32_1872 : BitVec 32 := 1#32
  let v1719 : BitVec 32 := Scalar.muli v1718 c1_i32_1872
  let v1720 : BitVec 32 := Scalar.addi c0_i32_1873 v1719
  v1720.toNat
def k0_dev113 (d0 : Dev nD) : Nat :=
  let c0_i32_1886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1878 : BitVec 32 := 20#32
  let v1728 : BitVec 32 := Scalar.addi v2 c20_i32_1878
  let c32_i32_1879 : BitVec 32 := 32#32
  let v1729 : BitVec 32 := Scalar.remsi v1728 c32_i32_1879
  let c1_i32_1885 : BitVec 32 := 1#32
  let v1730 : BitVec 32 := Scalar.muli v1729 c1_i32_1885
  let v1731 : BitVec 32 := Scalar.addi c0_i32_1886 v1730
  v1731.toNat
def k0_dev114 (d0 : Dev nD) : Nat :=
  let c0_i32_1899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1891 : BitVec 32 := 21#32
  let v1739 : BitVec 32 := Scalar.addi v2 c21_i32_1891
  let c32_i32_1892 : BitVec 32 := 32#32
  let v1740 : BitVec 32 := Scalar.remsi v1739 c32_i32_1892
  let c1_i32_1898 : BitVec 32 := 1#32
  let v1741 : BitVec 32 := Scalar.muli v1740 c1_i32_1898
  let v1742 : BitVec 32 := Scalar.addi c0_i32_1899 v1741
  v1742.toNat
def k0_dev115 (d0 : Dev nD) : Nat :=
  let c0_i32_1912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1904 : BitVec 32 := 22#32
  let v1750 : BitVec 32 := Scalar.addi v2 c22_i32_1904
  let c32_i32_1905 : BitVec 32 := 32#32
  let v1751 : BitVec 32 := Scalar.remsi v1750 c32_i32_1905
  let c1_i32_1911 : BitVec 32 := 1#32
  let v1752 : BitVec 32 := Scalar.muli v1751 c1_i32_1911
  let v1753 : BitVec 32 := Scalar.addi c0_i32_1912 v1752
  v1753.toNat
def k0_dev116 (d0 : Dev nD) : Nat :=
  let c0_i32_1925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1917 : BitVec 32 := 23#32
  let v1761 : BitVec 32 := Scalar.addi v2 c23_i32_1917
  let c32_i32_1918 : BitVec 32 := 32#32
  let v1762 : BitVec 32 := Scalar.remsi v1761 c32_i32_1918
  let c1_i32_1924 : BitVec 32 := 1#32
  let v1763 : BitVec 32 := Scalar.muli v1762 c1_i32_1924
  let v1764 : BitVec 32 := Scalar.addi c0_i32_1925 v1763
  v1764.toNat
def k0_dev117 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1930 : BitVec 32 := 24#32
  let v1772 : BitVec 32 := Scalar.addi v2 c24_i32_1930
  let c32_i32_1931 : BitVec 32 := 32#32
  let v1773 : BitVec 32 := Scalar.remsi v1772 c32_i32_1931
  let c1_i32_1937 : BitVec 32 := 1#32
  let v1774 : BitVec 32 := Scalar.muli v1773 c1_i32_1937
  let v1775 : BitVec 32 := Scalar.addi c0_i32_1938 v1774
  v1775.toNat
def k0_dev118 (d0 : Dev nD) : Nat :=
  let c0_i32_1951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1943 : BitVec 32 := 25#32
  let v1783 : BitVec 32 := Scalar.addi v2 c25_i32_1943
  let c32_i32_1944 : BitVec 32 := 32#32
  let v1784 : BitVec 32 := Scalar.remsi v1783 c32_i32_1944
  let c1_i32_1950 : BitVec 32 := 1#32
  let v1785 : BitVec 32 := Scalar.muli v1784 c1_i32_1950
  let v1786 : BitVec 32 := Scalar.addi c0_i32_1951 v1785
  v1786.toNat
def k0_dev119 (d0 : Dev nD) : Nat :=
  let c0_i32_1964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1956 : BitVec 32 := 26#32
  let v1794 : BitVec 32 := Scalar.addi v2 c26_i32_1956
  let c32_i32_1957 : BitVec 32 := 32#32
  let v1795 : BitVec 32 := Scalar.remsi v1794 c32_i32_1957
  let c1_i32_1963 : BitVec 32 := 1#32
  let v1796 : BitVec 32 := Scalar.muli v1795 c1_i32_1963
  let v1797 : BitVec 32 := Scalar.addi c0_i32_1964 v1796
  v1797.toNat
def k0_dev120 (d0 : Dev nD) : Nat :=
  let c0_i32_1977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1969 : BitVec 32 := 27#32
  let v1805 : BitVec 32 := Scalar.addi v2 c27_i32_1969
  let c32_i32_1970 : BitVec 32 := 32#32
  let v1806 : BitVec 32 := Scalar.remsi v1805 c32_i32_1970
  let c1_i32_1976 : BitVec 32 := 1#32
  let v1807 : BitVec 32 := Scalar.muli v1806 c1_i32_1976
  let v1808 : BitVec 32 := Scalar.addi c0_i32_1977 v1807
  v1808.toNat
def k0_dev121 (d0 : Dev nD) : Nat :=
  let c0_i32_1990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1982 : BitVec 32 := 28#32
  let v1816 : BitVec 32 := Scalar.addi v2 c28_i32_1982
  let c32_i32_1983 : BitVec 32 := 32#32
  let v1817 : BitVec 32 := Scalar.remsi v1816 c32_i32_1983
  let c1_i32_1989 : BitVec 32 := 1#32
  let v1818 : BitVec 32 := Scalar.muli v1817 c1_i32_1989
  let v1819 : BitVec 32 := Scalar.addi c0_i32_1990 v1818
  v1819.toNat
def k0_dev122 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1995 : BitVec 32 := 29#32
  let v1827 : BitVec 32 := Scalar.addi v2 c29_i32_1995
  let c32_i32_1996 : BitVec 32 := 32#32
  let v1828 : BitVec 32 := Scalar.remsi v1827 c32_i32_1996
  let c1_i32_2002 : BitVec 32 := 1#32
  let v1829 : BitVec 32 := Scalar.muli v1828 c1_i32_2002
  let v1830 : BitVec 32 := Scalar.addi c0_i32_2003 v1829
  v1830.toNat
def k0_dev123 (d0 : Dev nD) : Nat :=
  let c0_i32_2016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2008 : BitVec 32 := 30#32
  let v1838 : BitVec 32 := Scalar.addi v2 c30_i32_2008
  let c32_i32_2009 : BitVec 32 := 32#32
  let v1839 : BitVec 32 := Scalar.remsi v1838 c32_i32_2009
  let c1_i32_2015 : BitVec 32 := 1#32
  let v1840 : BitVec 32 := Scalar.muli v1839 c1_i32_2015
  let v1841 : BitVec 32 := Scalar.addi c0_i32_2016 v1840
  v1841.toNat
def k0_dev124 (d0 : Dev nD) : Nat :=
  let c0_i32_2029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2021 : BitVec 32 := 31#32
  let v1849 : BitVec 32 := Scalar.addi v2 c31_i32_2021
  let c32_i32_2022 : BitVec 32 := 32#32
  let v1850 : BitVec 32 := Scalar.remsi v1849 c32_i32_2022
  let c1_i32_2028 : BitVec 32 := 1#32
  let v1851 : BitVec 32 := Scalar.muli v1850 c1_i32_2028
  let v1852 : BitVec 32 := Scalar.addi c0_i32_2029 v1851
  v1852.toNat
def k0_dev125 (d0 : Dev nD) : Nat :=
  let c0_i32_2485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2477 : BitVec 32 := 1#32
  let v2181 : BitVec 32 := Scalar.addi v2 c1_i32_2477
  let c32_i32_2478 : BitVec 32 := 32#32
  let v2182 : BitVec 32 := Scalar.remsi v2181 c32_i32_2478
  let c1_i32_2484 : BitVec 32 := 1#32
  let v2183 : BitVec 32 := Scalar.muli v2182 c1_i32_2484
  let v2184 : BitVec 32 := Scalar.addi c0_i32_2485 v2183
  v2184.toNat
def k0_dev126 (d0 : Dev nD) : Nat :=
  let c0_i32_2498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2490 : BitVec 32 := 2#32
  let v2192 : BitVec 32 := Scalar.addi v2 c2_i32_2490
  let c32_i32_2491 : BitVec 32 := 32#32
  let v2193 : BitVec 32 := Scalar.remsi v2192 c32_i32_2491
  let c1_i32_2497 : BitVec 32 := 1#32
  let v2194 : BitVec 32 := Scalar.muli v2193 c1_i32_2497
  let v2195 : BitVec 32 := Scalar.addi c0_i32_2498 v2194
  v2195.toNat
def k0_dev127 (d0 : Dev nD) : Nat :=
  let c0_i32_2511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2503 : BitVec 32 := 3#32
  let v2203 : BitVec 32 := Scalar.addi v2 c3_i32_2503
  let c32_i32_2504 : BitVec 32 := 32#32
  let v2204 : BitVec 32 := Scalar.remsi v2203 c32_i32_2504
  let c1_i32_2510 : BitVec 32 := 1#32
  let v2205 : BitVec 32 := Scalar.muli v2204 c1_i32_2510
  let v2206 : BitVec 32 := Scalar.addi c0_i32_2511 v2205
  v2206.toNat
def k0_dev128 (d0 : Dev nD) : Nat :=
  let c0_i32_2524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2516 : BitVec 32 := 4#32
  let v2214 : BitVec 32 := Scalar.addi v2 c4_i32_2516
  let c32_i32_2517 : BitVec 32 := 32#32
  let v2215 : BitVec 32 := Scalar.remsi v2214 c32_i32_2517
  let c1_i32_2523 : BitVec 32 := 1#32
  let v2216 : BitVec 32 := Scalar.muli v2215 c1_i32_2523
  let v2217 : BitVec 32 := Scalar.addi c0_i32_2524 v2216
  v2217.toNat
def k0_dev129 (d0 : Dev nD) : Nat :=
  let c0_i32_2537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2529 : BitVec 32 := 5#32
  let v2225 : BitVec 32 := Scalar.addi v2 c5_i32_2529
  let c32_i32_2530 : BitVec 32 := 32#32
  let v2226 : BitVec 32 := Scalar.remsi v2225 c32_i32_2530
  let c1_i32_2536 : BitVec 32 := 1#32
  let v2227 : BitVec 32 := Scalar.muli v2226 c1_i32_2536
  let v2228 : BitVec 32 := Scalar.addi c0_i32_2537 v2227
  v2228.toNat
def k0_dev130 (d0 : Dev nD) : Nat :=
  let c0_i32_2550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2542 : BitVec 32 := 6#32
  let v2236 : BitVec 32 := Scalar.addi v2 c6_i32_2542
  let c32_i32_2543 : BitVec 32 := 32#32
  let v2237 : BitVec 32 := Scalar.remsi v2236 c32_i32_2543
  let c1_i32_2549 : BitVec 32 := 1#32
  let v2238 : BitVec 32 := Scalar.muli v2237 c1_i32_2549
  let v2239 : BitVec 32 := Scalar.addi c0_i32_2550 v2238
  v2239.toNat
def k0_dev131 (d0 : Dev nD) : Nat :=
  let c0_i32_2563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2555 : BitVec 32 := 7#32
  let v2247 : BitVec 32 := Scalar.addi v2 c7_i32_2555
  let c32_i32_2556 : BitVec 32 := 32#32
  let v2248 : BitVec 32 := Scalar.remsi v2247 c32_i32_2556
  let c1_i32_2562 : BitVec 32 := 1#32
  let v2249 : BitVec 32 := Scalar.muli v2248 c1_i32_2562
  let v2250 : BitVec 32 := Scalar.addi c0_i32_2563 v2249
  v2250.toNat
def k0_dev132 (d0 : Dev nD) : Nat :=
  let c0_i32_2576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2568 : BitVec 32 := 8#32
  let v2258 : BitVec 32 := Scalar.addi v2 c8_i32_2568
  let c32_i32_2569 : BitVec 32 := 32#32
  let v2259 : BitVec 32 := Scalar.remsi v2258 c32_i32_2569
  let c1_i32_2575 : BitVec 32 := 1#32
  let v2260 : BitVec 32 := Scalar.muli v2259 c1_i32_2575
  let v2261 : BitVec 32 := Scalar.addi c0_i32_2576 v2260
  v2261.toNat
def k0_dev133 (d0 : Dev nD) : Nat :=
  let c0_i32_2589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2581 : BitVec 32 := 9#32
  let v2269 : BitVec 32 := Scalar.addi v2 c9_i32_2581
  let c32_i32_2582 : BitVec 32 := 32#32
  let v2270 : BitVec 32 := Scalar.remsi v2269 c32_i32_2582
  let c1_i32_2588 : BitVec 32 := 1#32
  let v2271 : BitVec 32 := Scalar.muli v2270 c1_i32_2588
  let v2272 : BitVec 32 := Scalar.addi c0_i32_2589 v2271
  v2272.toNat
def k0_dev134 (d0 : Dev nD) : Nat :=
  let c0_i32_2602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2594 : BitVec 32 := 10#32
  let v2280 : BitVec 32 := Scalar.addi v2 c10_i32_2594
  let c32_i32_2595 : BitVec 32 := 32#32
  let v2281 : BitVec 32 := Scalar.remsi v2280 c32_i32_2595
  let c1_i32_2601 : BitVec 32 := 1#32
  let v2282 : BitVec 32 := Scalar.muli v2281 c1_i32_2601
  let v2283 : BitVec 32 := Scalar.addi c0_i32_2602 v2282
  v2283.toNat
def k0_dev135 (d0 : Dev nD) : Nat :=
  let c0_i32_2615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2607 : BitVec 32 := 11#32
  let v2291 : BitVec 32 := Scalar.addi v2 c11_i32_2607
  let c32_i32_2608 : BitVec 32 := 32#32
  let v2292 : BitVec 32 := Scalar.remsi v2291 c32_i32_2608
  let c1_i32_2614 : BitVec 32 := 1#32
  let v2293 : BitVec 32 := Scalar.muli v2292 c1_i32_2614
  let v2294 : BitVec 32 := Scalar.addi c0_i32_2615 v2293
  v2294.toNat
def k0_dev136 (d0 : Dev nD) : Nat :=
  let c0_i32_2628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2620 : BitVec 32 := 12#32
  let v2302 : BitVec 32 := Scalar.addi v2 c12_i32_2620
  let c32_i32_2621 : BitVec 32 := 32#32
  let v2303 : BitVec 32 := Scalar.remsi v2302 c32_i32_2621
  let c1_i32_2627 : BitVec 32 := 1#32
  let v2304 : BitVec 32 := Scalar.muli v2303 c1_i32_2627
  let v2305 : BitVec 32 := Scalar.addi c0_i32_2628 v2304
  v2305.toNat
def k0_dev137 (d0 : Dev nD) : Nat :=
  let c0_i32_2641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2633 : BitVec 32 := 13#32
  let v2313 : BitVec 32 := Scalar.addi v2 c13_i32_2633
  let c32_i32_2634 : BitVec 32 := 32#32
  let v2314 : BitVec 32 := Scalar.remsi v2313 c32_i32_2634
  let c1_i32_2640 : BitVec 32 := 1#32
  let v2315 : BitVec 32 := Scalar.muli v2314 c1_i32_2640
  let v2316 : BitVec 32 := Scalar.addi c0_i32_2641 v2315
  v2316.toNat
def k0_dev138 (d0 : Dev nD) : Nat :=
  let c0_i32_2654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2646 : BitVec 32 := 14#32
  let v2324 : BitVec 32 := Scalar.addi v2 c14_i32_2646
  let c32_i32_2647 : BitVec 32 := 32#32
  let v2325 : BitVec 32 := Scalar.remsi v2324 c32_i32_2647
  let c1_i32_2653 : BitVec 32 := 1#32
  let v2326 : BitVec 32 := Scalar.muli v2325 c1_i32_2653
  let v2327 : BitVec 32 := Scalar.addi c0_i32_2654 v2326
  v2327.toNat
def k0_dev139 (d0 : Dev nD) : Nat :=
  let c0_i32_2667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2659 : BitVec 32 := 15#32
  let v2335 : BitVec 32 := Scalar.addi v2 c15_i32_2659
  let c32_i32_2660 : BitVec 32 := 32#32
  let v2336 : BitVec 32 := Scalar.remsi v2335 c32_i32_2660
  let c1_i32_2666 : BitVec 32 := 1#32
  let v2337 : BitVec 32 := Scalar.muli v2336 c1_i32_2666
  let v2338 : BitVec 32 := Scalar.addi c0_i32_2667 v2337
  v2338.toNat
def k0_dev140 (d0 : Dev nD) : Nat :=
  let c0_i32_2680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2672 : BitVec 32 := 16#32
  let v2346 : BitVec 32 := Scalar.addi v2 c16_i32_2672
  let c32_i32_2673 : BitVec 32 := 32#32
  let v2347 : BitVec 32 := Scalar.remsi v2346 c32_i32_2673
  let c1_i32_2679 : BitVec 32 := 1#32
  let v2348 : BitVec 32 := Scalar.muli v2347 c1_i32_2679
  let v2349 : BitVec 32 := Scalar.addi c0_i32_2680 v2348
  v2349.toNat
def k0_dev141 (d0 : Dev nD) : Nat :=
  let c0_i32_2693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2685 : BitVec 32 := 17#32
  let v2357 : BitVec 32 := Scalar.addi v2 c17_i32_2685
  let c32_i32_2686 : BitVec 32 := 32#32
  let v2358 : BitVec 32 := Scalar.remsi v2357 c32_i32_2686
  let c1_i32_2692 : BitVec 32 := 1#32
  let v2359 : BitVec 32 := Scalar.muli v2358 c1_i32_2692
  let v2360 : BitVec 32 := Scalar.addi c0_i32_2693 v2359
  v2360.toNat
def k0_dev142 (d0 : Dev nD) : Nat :=
  let c0_i32_2706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2698 : BitVec 32 := 18#32
  let v2368 : BitVec 32 := Scalar.addi v2 c18_i32_2698
  let c32_i32_2699 : BitVec 32 := 32#32
  let v2369 : BitVec 32 := Scalar.remsi v2368 c32_i32_2699
  let c1_i32_2705 : BitVec 32 := 1#32
  let v2370 : BitVec 32 := Scalar.muli v2369 c1_i32_2705
  let v2371 : BitVec 32 := Scalar.addi c0_i32_2706 v2370
  v2371.toNat
def k0_dev143 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2711 : BitVec 32 := 19#32
  let v2379 : BitVec 32 := Scalar.addi v2 c19_i32_2711
  let c32_i32_2712 : BitVec 32 := 32#32
  let v2380 : BitVec 32 := Scalar.remsi v2379 c32_i32_2712
  let c1_i32_2718 : BitVec 32 := 1#32
  let v2381 : BitVec 32 := Scalar.muli v2380 c1_i32_2718
  let v2382 : BitVec 32 := Scalar.addi c0_i32_2719 v2381
  v2382.toNat
def k0_dev144 (d0 : Dev nD) : Nat :=
  let c0_i32_2732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2724 : BitVec 32 := 20#32
  let v2390 : BitVec 32 := Scalar.addi v2 c20_i32_2724
  let c32_i32_2725 : BitVec 32 := 32#32
  let v2391 : BitVec 32 := Scalar.remsi v2390 c32_i32_2725
  let c1_i32_2731 : BitVec 32 := 1#32
  let v2392 : BitVec 32 := Scalar.muli v2391 c1_i32_2731
  let v2393 : BitVec 32 := Scalar.addi c0_i32_2732 v2392
  v2393.toNat
def k0_dev145 (d0 : Dev nD) : Nat :=
  let c0_i32_2745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2737 : BitVec 32 := 21#32
  let v2401 : BitVec 32 := Scalar.addi v2 c21_i32_2737
  let c32_i32_2738 : BitVec 32 := 32#32
  let v2402 : BitVec 32 := Scalar.remsi v2401 c32_i32_2738
  let c1_i32_2744 : BitVec 32 := 1#32
  let v2403 : BitVec 32 := Scalar.muli v2402 c1_i32_2744
  let v2404 : BitVec 32 := Scalar.addi c0_i32_2745 v2403
  v2404.toNat
def k0_dev146 (d0 : Dev nD) : Nat :=
  let c0_i32_2758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2750 : BitVec 32 := 22#32
  let v2412 : BitVec 32 := Scalar.addi v2 c22_i32_2750
  let c32_i32_2751 : BitVec 32 := 32#32
  let v2413 : BitVec 32 := Scalar.remsi v2412 c32_i32_2751
  let c1_i32_2757 : BitVec 32 := 1#32
  let v2414 : BitVec 32 := Scalar.muli v2413 c1_i32_2757
  let v2415 : BitVec 32 := Scalar.addi c0_i32_2758 v2414
  v2415.toNat
def k0_dev147 (d0 : Dev nD) : Nat :=
  let c0_i32_2771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2763 : BitVec 32 := 23#32
  let v2423 : BitVec 32 := Scalar.addi v2 c23_i32_2763
  let c32_i32_2764 : BitVec 32 := 32#32
  let v2424 : BitVec 32 := Scalar.remsi v2423 c32_i32_2764
  let c1_i32_2770 : BitVec 32 := 1#32
  let v2425 : BitVec 32 := Scalar.muli v2424 c1_i32_2770
  let v2426 : BitVec 32 := Scalar.addi c0_i32_2771 v2425
  v2426.toNat
def k0_dev148 (d0 : Dev nD) : Nat :=
  let c0_i32_2784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2776 : BitVec 32 := 24#32
  let v2434 : BitVec 32 := Scalar.addi v2 c24_i32_2776
  let c32_i32_2777 : BitVec 32 := 32#32
  let v2435 : BitVec 32 := Scalar.remsi v2434 c32_i32_2777
  let c1_i32_2783 : BitVec 32 := 1#32
  let v2436 : BitVec 32 := Scalar.muli v2435 c1_i32_2783
  let v2437 : BitVec 32 := Scalar.addi c0_i32_2784 v2436
  v2437.toNat
def k0_dev149 (d0 : Dev nD) : Nat :=
  let c0_i32_2797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2789 : BitVec 32 := 25#32
  let v2445 : BitVec 32 := Scalar.addi v2 c25_i32_2789
  let c32_i32_2790 : BitVec 32 := 32#32
  let v2446 : BitVec 32 := Scalar.remsi v2445 c32_i32_2790
  let c1_i32_2796 : BitVec 32 := 1#32
  let v2447 : BitVec 32 := Scalar.muli v2446 c1_i32_2796
  let v2448 : BitVec 32 := Scalar.addi c0_i32_2797 v2447
  v2448.toNat
def k0_dev150 (d0 : Dev nD) : Nat :=
  let c0_i32_2810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2802 : BitVec 32 := 26#32
  let v2456 : BitVec 32 := Scalar.addi v2 c26_i32_2802
  let c32_i32_2803 : BitVec 32 := 32#32
  let v2457 : BitVec 32 := Scalar.remsi v2456 c32_i32_2803
  let c1_i32_2809 : BitVec 32 := 1#32
  let v2458 : BitVec 32 := Scalar.muli v2457 c1_i32_2809
  let v2459 : BitVec 32 := Scalar.addi c0_i32_2810 v2458
  v2459.toNat
def k0_dev151 (d0 : Dev nD) : Nat :=
  let c0_i32_2823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2815 : BitVec 32 := 27#32
  let v2467 : BitVec 32 := Scalar.addi v2 c27_i32_2815
  let c32_i32_2816 : BitVec 32 := 32#32
  let v2468 : BitVec 32 := Scalar.remsi v2467 c32_i32_2816
  let c1_i32_2822 : BitVec 32 := 1#32
  let v2469 : BitVec 32 := Scalar.muli v2468 c1_i32_2822
  let v2470 : BitVec 32 := Scalar.addi c0_i32_2823 v2469
  v2470.toNat
def k0_dev152 (d0 : Dev nD) : Nat :=
  let c0_i32_2836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2828 : BitVec 32 := 28#32
  let v2478 : BitVec 32 := Scalar.addi v2 c28_i32_2828
  let c32_i32_2829 : BitVec 32 := 32#32
  let v2479 : BitVec 32 := Scalar.remsi v2478 c32_i32_2829
  let c1_i32_2835 : BitVec 32 := 1#32
  let v2480 : BitVec 32 := Scalar.muli v2479 c1_i32_2835
  let v2481 : BitVec 32 := Scalar.addi c0_i32_2836 v2480
  v2481.toNat
def k0_dev153 (d0 : Dev nD) : Nat :=
  let c0_i32_2849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2841 : BitVec 32 := 29#32
  let v2489 : BitVec 32 := Scalar.addi v2 c29_i32_2841
  let c32_i32_2842 : BitVec 32 := 32#32
  let v2490 : BitVec 32 := Scalar.remsi v2489 c32_i32_2842
  let c1_i32_2848 : BitVec 32 := 1#32
  let v2491 : BitVec 32 := Scalar.muli v2490 c1_i32_2848
  let v2492 : BitVec 32 := Scalar.addi c0_i32_2849 v2491
  v2492.toNat
def k0_dev154 (d0 : Dev nD) : Nat :=
  let c0_i32_2862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2854 : BitVec 32 := 30#32
  let v2500 : BitVec 32 := Scalar.addi v2 c30_i32_2854
  let c32_i32_2855 : BitVec 32 := 32#32
  let v2501 : BitVec 32 := Scalar.remsi v2500 c32_i32_2855
  let c1_i32_2861 : BitVec 32 := 1#32
  let v2502 : BitVec 32 := Scalar.muli v2501 c1_i32_2861
  let v2503 : BitVec 32 := Scalar.addi c0_i32_2862 v2502
  v2503.toNat
def k0_dev155 (d0 : Dev nD) : Nat :=
  let c0_i32_2875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2867 : BitVec 32 := 31#32
  let v2511 : BitVec 32 := Scalar.addi v2 c31_i32_2867
  let c32_i32_2868 : BitVec 32 := 32#32
  let v2512 : BitVec 32 := Scalar.remsi v2511 c32_i32_2868
  let c1_i32_2874 : BitVec 32 := 1#32
  let v2513 : BitVec 32 := Scalar.muli v2512 c1_i32_2874
  let v2514 : BitVec 32 := Scalar.addi c0_i32_2875 v2513
  v2514.toNat
def k0_off4 (d0 : Dev nD) (c1_i32_3699 : BitVec 32) (c0_i32_3706 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3027 : BitVec 32 := Scalar.subi v2 c1_i32_3699
  let c32_i32_3700 : BitVec 32 := 32#32
  let v3028 : BitVec 32 := Scalar.addi v3027 c32_i32_3700
  let c32_i32_3701 : BitVec 32 := 32#32
  let v3029 : BitVec 32 := Scalar.remsi v3028 c32_i32_3701
  let c48_i32_3705 : BitVec 32 := 48#32
  let v3033 : BitVec 32 := Scalar.muli v3029 c48_i32_3705
  let v3034 : BitVec 32 := Scalar.addi v3033 c0_i32_3706
  let v3035 : Index := Scalar.indexCast v3034
  let c0_3707 : Index := 0#32
  ![v3035.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x24576, .f32⟩
  | .hbm, ⟨1, _⟩ => ⟨S24576x1536, .f32⟩
  | .hbm, ⟨2, _⟩ => ⟨S1536x1536, .f32⟩
  | _, _ => ⟨S1536x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Loop.lean ====
/- The kernel's body as loops over the mesh: the printed body is fully unrolled; here its repeated stretches are written
   once, over the peer distance `r + 1` and the half `h`, and the unrolled body is that text. -/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.AllReduce

open Idealize.ShloMosaic Idealize.ShloMosaic.TcCoe Idealize.SL.Sem
open Cert.KernelIdeal Cert.KernelIdeal.Gen

variable {F : FTy → Type} [FloatOps F]

/-- The peer distances `1 … 31`, as `r = 0 … 30`. -/
def dists : List (Fin 31) :=
  [0, 1, 2, 3, 4, 5, 6, 7, 8, 9, 10, 11, 12, 13, 14, 15, 16, 17, 18, 19, 20, 21, 22, 23, 24, 25, 26, 27, 28, 29, 30]

/-- The unrolled loop: the step at each index in order, then the rest. -/
def rep {α : Type} {R : Type 1} : List α → (α → R → R) → R → R
  | [], _, k => k
  | a :: l, s, k => s a (rep l s k)

/-- The device at distance `w`, as the kernel computes its id. -/
def devN (d0 : Dev nD) (w : BitVec 32) : Nat :=
  (Scalar.addi 0#32 (Scalar.muli (Scalar.remsi (Scalar.addi (Scalar.remsi (Scalar.divsi (Dev.word d0) 1#32) 32#32) w) 32#32) 1#32)).toNat
theorem devN_eq : ∀ (c : Dev nD) (r : Fin 31), devN c (BitVec.ofNat 32 (1 + r.val)) = (c.val + (r.val + 1)) % 32 := by decide +kernel
theorem devN_lt (c : Dev nD) (r : Fin 31) : devN c (BitVec.ofNat 32 (1 + r.val)) < nD := by
  rw [devN_eq]; exact Nat.mod_lt _ (by decide)

/-! ## The rectangles at a symbolic distance and half -/

theorem inb48 : ∀ (r : Fin 31) (a), (![1 + r.val, 0, 0] : Fin 3 → Nat) a + S1x48x1536.size a ≤ S32x48x1536.size a := by decide
theorem inb24 : ∀ (r : Fin 31) (h : Fin 2) (a), (![1 + r.val, 24 * h.val, 0] : Fin 3 → Nat) a + S1x24x1536.size a ≤ S32x48x1536.size a := by decide
theorem inbAll : ∀ (h : Fin 2) (a), (![0, 24 * h.val, 0] : Fin 3 → Nat) a + S32x24x1536.size a ≤ S32x48x1536.size a := by decide
theorem inbRed : ∀ (h : Fin 2) (a), (![24 * h.val, 0] : Fin 2 → Nat) a + S24x1536.size a ≤ S48x1536.size a := by decide
theorem inbSem : ∀ (h : Fin 2) (r : Fin 31) (a), (![h.val, 1 + r.val] : Fin 2 → Nat) a + S1x1.size a ≤ S2x32.size a := by decide
theorem packed48 : ∀ r : Fin 31, (Rect.unit (s := S32x48x1536) ![1 + r.val, 0, 0] S1x48x1536.size (inb48 r)).PackedRows (EltTy.packing .bf16) := by decide
theorem words24 : ∀ (r : Fin 31) (h : Fin 2), (Rect.unit (s := S32x48x1536) ![1 + r.val, 24 * h.val, 0] S1x24x1536.size (inb24 r h)).WholeWords (EltTy.packing .bf16) := by decide
theorem packedRed : ∀ h : Fin 2, (Rect.unit (s := S48x1536) ![24 * h.val, 0] S24x1536.size (inbRed h)).PackedRows (EltTy.packing .bf16) := by decide
theorem wordsRed : ∀ h : Fin 2, (Rect.unit (s := S48x1536) ![24 * h.val, 0] S24x1536.size (inbRed h)).WholeWords (EltTy.packing .bf16) := by decide

/-! ## The values stored -/

/-- The partial product. -/
def payProd (x : Vec F S1536x768 .f32) (y : Vec F S768x1536 .f32) : FVec F S1536x1536 .f32 :=
  matmul dot_S1536x768_S768x1536_S1536x1536_1_0_0_1_n_n none (truncf .bf16 (shapeCast S1536x768 x shapeCasts_S1536x768_S1536x768) bitsLt_bf16_f32)
    (truncf .bf16 (shapeCast S768x1536 y shapeCasts_S768x1536_S768x1536) bitsLt_bf16_f32) (constant S1536x1536 .f32 0x00000000#32)
/-- Rows of the partial product, rounded, as one slot. -/
def payStage (x : Vec F S48x1536 .f32) : FVec F S1x48x1536 .bf16 :=
  shapeCast S1x48x1536 (truncf .bf16 (shapeCast S48x1536 x shapeCasts_S48x1536_S48x1536) bitsLt_bf16_f32) shapeCasts_S48x1536_S1x48x1536
/-- The sum of the 32 gathered slots of one half. -/
def paySum (x : Vec F S32x24x1536 .bf16) : FVec F S24x1536 .f32 :=
  multiReduction .add [0] S24x1536 (extf .f32 (show FVec F S32x24x1536 .bf16 from x) bitsLt_bf16_f32) 0x00000000#32 reduces_S32x24x1536_S24x1536 (.inl rfl) rfl
/-- The sum rounded, as it is broadcast. -/
def payRed (x : Vec F S32x24x1536 .bf16) : FVec F S24x1536 .bf16 :=
  shapeCast S24x1536 (truncf .bf16 (paySum x) bitsLt_bf16_f32) shapeCasts_S24x1536_S24x1536
/-- A received half, widened. -/
def payOut (x : Vec F S1x24x1536 .bf16) : FVec F S24x1536 .f32 :=
  extf .f32 (show FVec F S24x1536 .bf16 from shapeCast S24x1536 x shapeCasts_S1x24x1536_S24x1536) bitsLt_bf16_f32

section Text

variable (a0 : Memref sig .tc .vmem S1536x768 .f32) (h0 : a0.IsWhole) (a1 : Memref sig .tc .vmem S768x1536 .f32) (h1 : a1.IsWhole)
  (a2 : Memref sig .tc .vmem S1536x1536 .f32) (h2 : a2.IsWhole) (a3 : Memref sig .tc .vmem S32x48x1536 .bf16) (h3 : a3.IsWhole)
  (a4 : Memref sig .tc .vmem S32x48x1536 .bf16) (h4 : a4.IsWhole) (a5 : Memref sig .tc .vmem S32x48x1536 .bf16) (h5 : a5.IsWhole)
  (a6 : Memref sig .tc .vmem S48x1536 .bf16) (h6 : a6.IsWhole) (s1 r1 s2 r2 : DmaSems sig S2x32)

/-- A program of the kernel's processor. -/
abbrev PG (F : FTy → Type) [FloatOps F] : Type 1 := Prog (TpuEff nD τ sig (Elt F) Λ₀ .tc) PUnit

/-- The half slot `(r, h)` of a buffer of 32 slots. -/
abbrev slotM (a : Memref sig .tc .vmem S32x48x1536 .bf16) (r : Fin 31) (h : Fin 2) : Memref sig .tc .vmem S24x1536 .bf16 :=
  (a.slice (Rect.unit (s := S32x48x1536) ![1 + r.val, 24 * h.val, 0] S1x24x1536.size (inb24 r h)) (fun _ => rfl)).squeeze S24x1536 squeezes_S1x24x1536_S24x1536
/-- The half `h` of the reduced chunk. -/
abbrev redM (a : Memref sig .tc .vmem S48x1536 .bf16) (h : Fin 2) : Memref sig .tc .vmem S24x1536 .bf16 :=
  a.slice (Rect.unit (s := S48x1536) ![24 * h.val, 0] S24x1536.size (inbRed h)) (fun _ => rfl)
/-- The semaphore `(h, r)` of an array. -/
abbrev semAt (s : DmaSems sig S2x32) (h : Fin 2) (r : Fin 31) : DmaSem sig :=
  ((s.slice (Rect.unit (s := S2x32) ![h.val, 1 + r.val] S1x1.size (inbSem h r))).squeeze S_ squeezes_S1x1_S_).sem

/-- The barrier semaphore. -/
abbrev barSem : Sem sig := (SemArray.scalar (sig.barrier 0 rfl) : Sems sig S_).sem
/-- The peer at distance `r + 1`. -/
abbrev peerW (c : Dev nD) (r : Fin 31) : Dev nD := ⟨devN c (BitVec.ofNat 32 (1 + r.val)), devN_lt c r⟩

/-- A signal to the peer at distance `r + 1`. -/
def stSig (c : Dev nD) (r : Fin 31) (k : PG F) : PG F :=
  semSignalWord (peerW c r) barSem 1#32 >>= fun _ => k
/-- The product's chunk for the peer at distance `r + 1`, rounded into its slot. -/
def stStage (c : Dev nD) (r : Fin 31) (k : PG F) : PG F :=
  Prog.lift (.load a2 (Rect.unit (s := S1536x1536) (k0_off1 c (BitVec.ofNat 32 (1 + r.val))) S48x1536.size (k0_off1_inb c r)).toLoadRect (View.loadsAt_vmem h_S48x1536)) >>= fun x =>
  Prog.lift (.load a3 (Rect.unit (s := S32x48x1536) ![1 + r.val, 0, 0] S1x48x1536.size (inb48 r)).toLoadRect (View.loadsAt_vmem h_S1x48x1536)) >>= fun _ =>
  Prog.lift (.store a3 (Rect.unit (s := S32x48x1536) ![1 + r.val, 0, 0] S1x48x1536.size (inb48 r)) (payStage x) Finset.univ (View.stores_vmem h_S1x48x1536 (h3.storeExact_slice rfl _ (packed48 r)) (fun _ => rfl)) (.inl rfl)) >>= fun _ => k
/-- The first phase's transfer of a half slot. -/
def stSend1 (c : Dev nD) (h : Fin 2) (r : Fin 31) (k : PG F) : PG F :=
  Prog.lift (.enqueueDma (slotM a3 r h) (.remote (Dev.tc (peerW c r)) (slotM a4 r h) (.dma (semAt s1 h r))) (.dma (semAt r1 h r))
    ((h3.wordExact_slice rfl _ (words24 r h)).reshape _ _) ((h4.wordExact_slice rfl _ (words24 r h)).reshape _ _) ⟨⟨rfl, Or.inl rfl⟩, trivial⟩) >>= fun _ => k
/-- The wait for a first-phase half slot to land. -/
def stRecv1 (h : Fin 2) (r : Fin 31) (k : PG F) : PG F :=
  Prog.lift (.waitDma2 (semAt r1 h r) (slotM a3 r h) (slotM a4 r h) ((h3.wordExact_slice rfl _ (words24 r h)).reshape _ _) ((h4.wordExact_slice rfl _ (words24 r h)).reshape _ _)) >>= fun _ => k
/-- The second phase's transfer of a reduced half. -/
def stSend2 (c : Dev nD) (h : Fin 2) (r : Fin 31) (k : PG F) : PG F :=
  Prog.lift (.enqueueDma (redM a6 h) (.remote (Dev.tc (peerW c r)) (slotM a5 r h) (.dma (semAt s2 h r))) (.dma (semAt r2 h r))
    (h6.wordExact_slice rfl _ (wordsRed h)) ((h5.wordExact_slice rfl _ (words24 r h)).reshape _ _) ⟨⟨rfl, Or.inl rfl⟩, trivial⟩) >>= fun _ => k
/-- One half: its 31 landings, the sum, its two stores, the 31 transfers of the result. -/
def stHalf (c : Dev nD) (h : Fin 2) (k : PG F) : PG F :=
  rep dists (stRecv1 a3 h3 a4 h4 r1 h) <|
  Prog.lift (.load a4 (Rect.unit (s := S32x48x1536) ![0, 24 * h.val, 0] S32x24x1536.size (inbAll h)).toLoadRect (View.loadsAt_vmem h_S32x24x1536)) >>= fun x =>
  Prog.lift (.load a6 (Rect.unit (s := S48x1536) ![24 * h.val, 0] S24x1536.size (inbRed h)).toLoadRect (View.loadsAt_vmem h_S24x1536)) >>= fun _ =>
  Prog.lift (.store a6 (Rect.unit (s := S48x1536) ![24 * h.val, 0] S24x1536.size (inbRed h)) (payRed x) Finset.univ (View.stores_vmem h_S24x1536 (h6.storeExact_slice rfl _ (packedRed h)) (fun _ => rfl)) (.inl rfl)) >>= fun _ =>
  Prog.lift (.load a2 (Rect.unit (s := S1536x1536) (k0_off3 c (BitVec.ofNat 32 (24 * h.val))) S24x1536.size (k0_off3_inb c h)).toLoadRect (View.loadsAt_vmem h_S24x1536)) >>= fun _ =>
  Prog.lift (.store a2 (Rect.unit (s := S1536x1536) (k0_off3 c (BitVec.ofNat 32 (24 * h.val))) S24x1536.size (k0_off3_inb c h)) (paySum x) Finset.univ (View.stores_vmem_bits_univ h_S24x1536 rfl) (.inl rfl)) >>= fun _ =>
  rep dists (stSend2 a5 h5 a6 h6 s2 r2 c h) k
/-- The wait for a first-phase half slot to have been read. -/
def stSent1 (h : Fin 2) (r : Fin 31) (k : PG F) : PG F :=
  Prog.lift (.waitDma2 (semAt s1 h r) (slotM a4 r h) (slotM a3 r h) ((h4.wordExact_slice rfl _ (words24 r h)).reshape _ _) ((h3.wordExact_slice rfl _ (words24 r h)).reshape _ _)) >>= fun _ => k
/-- The wait for a second-phase half to land, and its store in the result. -/
def stRecv2 (c : Dev nD) (h : Fin 2) (r : Fin 31) (k : PG F) : PG F :=
  Prog.lift (.waitDma2 (semAt r2 h r) (redM a6 h) (slotM a5 r h) (h6.wordExact_slice rfl _ (wordsRed h)) ((h5.wordExact_slice rfl _ (words24 r h)).reshape _ _)) >>= fun _ =>
  Prog.lift (.load a5 (Rect.unit (s := S32x48x1536) ![1 + r.val, 24 * h.val, 0] S1x24x1536.size (inb24 r h)).toLoadRect (View.loadsAt_vmem h_S1x24x1536)) >>= fun x =>
  Prog.lift (.load a2 (Rect.unit (s := S1536x1536) (k0_off4 c (BitVec.ofNat 32 (1 + r.val)) (BitVec.ofNat 32 (24 * h.val))) S24x1536.size (k0_off4_inb c r h)).toLoadRect (View.loadsAt_vmem h_S24x1536)) >>= fun _ =>
  Prog.lift (.store a2 (Rect.unit (s := S1536x1536) (k0_off4 c (BitVec.ofNat 32 (1 + r.val)) (BitVec.ofNat 32 (24 * h.val))) S24x1536.size (k0_off4_inb c r h)) (payOut x) Finset.univ (View.stores_vmem_bits_univ h_S24x1536 rfl) (.inl rfl)) >>= fun _ => k
/-- The wait for a second-phase half to have been read. -/
def stSent2 (h : Fin 2) (r : Fin 31) (k : PG F) : PG F :=
  Prog.lift (.waitDma2 (semAt s2 h r) (slotM a5 r h) (redM a6 h) ((h5.wordExact_slice rfl _ (words24 r h)).reshape _ _) (h6.wordExact_slice rfl _ (wordsRed h))) >>= fun _ => k

/-- After the staging: everything from the first transfer on. -/
def loopTail (c : Dev nD) : PG F :=
  rep dists (stSend1 a3 h3 a4 h4 s1 r1 c 0) <| rep dists (stSend1 a3 h3 a4 h4 s1 r1 c 1) <|
  stHalf a2 a3 h3 a4 h4 a5 h5 a6 h6 r1 s2 r2 c 0 <| stHalf a2 a3 h3 a4 h4 a5 h5 a6 h6 r1 s2 r2 c 1 <|
  rep dists (stSent1 a3 h3 a4 h4 s1 0) <| rep dists (stSent1 a3 h3 a4 h4 s1 1) <|
  rep dists (stRecv2 a2 a5 h5 a6 h6 r2 c 0) <| rep dists (stRecv2 a2 a5 h5 a6 h6 r2 c 1) <|
  rep dists (stSent2 a5 h5 a6 h6 s2 0) <| rep dists (stSent2 a5 h5 a6 h6 s2 1) <| pure ⟨⟩

/-- The whole body. -/
def loopBody : PG F :=
  Prog.lift .deviceId >>= fun c =>
  rep dists (stSig c) <|
  semWaitWord barSem 31#32 >>= fun _ =>
  Prog.lift (.load a0 (Rect.unit (s := S1536x768) ![0, 0] S1536x768.size inb_S1536x768_S1536x768_0_0).toLoadRect (View.loadsAt_vmem h_S1536x768)) >>= fun x =>
  Prog.lift (.load a1 (Rect.unit (s := S768x1536) ![0, 0] S768x1536.size inb_S768x1536_S768x1536_0_0).toLoadRect (View.loadsAt_vmem h_S768x1536)) >>= fun y =>
  Prog.lift (.load a2 (Rect.unit (s := S1536x1536) ![0, 0] S1536x1536.size inb_S1536x1536_S1536x1536_0_0).toLoadRect (View.loadsAt_vmem h_S1536x1536)) >>= fun _ =>
  Prog.lift (.store a2 (Rect.unit (s := S1536x1536) ![0, 0] S1536x1536.size inb_S1536x1536_S1536x1536_0_0) (payProd x y) Finset.univ (View.stores_vmem_bits_univ h_S1536x1536 rfl) (.inl rfl)) >>= fun _ =>
  rep dists (stStage a2 a3 h3 c) <|
  Prog.lift (.load a2 (Rect.unit (s := S1536x1536) (k0_off2 c) S48x1536.size (k0_off2_inb c)).toLoadRect (View.loadsAt_vmem h_S48x1536)) >>= fun z =>
  Prog.lift (.load a4 (Rect.unit (s := S32x48x1536) ![0, 0, 0] S1x48x1536.size inb_S32x48x1536_S1x48x1536_0_0_0).toLoadRect (View.loadsAt_vmem h_S1x48x1536)) >>= fun _ =>
  Prog.lift (.store a4 (Rect.unit (s := S32x48x1536) ![0, 0, 0] S1x48x1536.size inb_S32x48x1536_S1x48x1536_0_0_0) (payStage z) Finset.univ (View.stores_vmem h_S1x48x1536 (h4.storeExact_slice rfl _ packedbf16_S32x48x1536_S1x48x1536_0_0_0) (fun _ => rfl)) (.inl rfl)) >>= fun _ =>
  loopTail a2 a3 h3 a4 h4 a5 h5 a6 h6 s1 r1 s2 r2 c

/-- The unrolled body is the loops' text. -/
theorem body_eq_loop : cc0_body (F := F) a0 h0 a1 h1 a2 h2 a3 h3 a4 h4 a5 h5 a6 h6 s1 r1 s2 r2
    = loopBody a0 a1 a2 a3 h3 a4 h4 a5 h5 a6 h6 s1 r1 s2 r2 := by chain_rfl

end Text

end Cert.AllReduce

end
-- ==== Proof.Contents.lean ====
/- What every buffer holds: the mesh's arithmetic, the element sets of the slots, and the contents of the scratch buffers
   and of the result on each device, all as functions of the launch memory. -/
module

public import proofs.«01_k».proof.Proof.Loop
public import Idealize.ShloMosaic.Lib.Pointwise
public import Idealize.ShloMosaic.Lib.Tactic

@[expose] public section

set_option maxRecDepth 16384

noncomputable section

namespace Cert.AllReduce

open Idealize.ShloMosaic Idealize.ShloMosaic.TcCoe Idealize.SL.Sem
open Cert.KernelIdeal Cert.KernelIdeal.Gen

variable {F : FTy → Type} [FloatOps F]

/-! ## The mesh -/

/-- The device `r + 1` further on. -/
def peer (c : Dev nD) (r : Fin 31) : Dev nD := ⟨(c.val + (r.val + 1)) % 32, Nat.mod_lt _ (by decide)⟩
/-- The device `s` further back. -/
def backBy (c : Dev nD) (s : Fin 32) : Dev nD := ⟨(c.val + (32 - s.val)) % 32, Nat.mod_lt _ (by decide)⟩
/-- The distance that completes `r + 1` to the whole ring. -/
def rev (r : Fin 31) : Fin 31 := ⟨30 - r.val, by omega⟩

theorem peerW_eq (c : Dev nD) (r : Fin 31) : peerW c r = peer c r := Fin.ext (devN_eq c r)
theorem rev_rev (r : Fin 31) : rev (rev r) = r := Fin.ext (by simp only [rev]; omega)
theorem peer_rev (c : Dev nD) (r : Fin 31) : peer (peer c r) (rev r) = c := Fin.ext (by
  have h : c.val < 32 := c.isLt
  simp only [peer, rev]; omega)
theorem rev_peer (c : Dev nD) (r : Fin 31) : peer (peer c (rev r)) r = c := Fin.ext (by
  have h : c.val < 32 := c.isLt
  simp only [peer, rev]; omega)
theorem backBy_peer (c : Dev nD) (r : Fin 31) : backBy (peer c r) r.succ = c := Fin.ext (by
  have h : c.val < 32 := c.isLt
  simp only [peer, backBy, Fin.val_succ]; omega)
theorem peer_backBy (c : Dev nD) (r : Fin 31) : peer (backBy c r.succ) r = c := Fin.ext (by
  have h : c.val < 32 := c.isLt
  simp only [peer, backBy, Fin.val_succ]; omega)
theorem backBy_zero (c : Dev nD) : backBy c 0 = c := Fin.ext (by
  have h : c.val < 32 := c.isLt
  simp only [backBy, Fin.val_zero]; omega)
theorem backBy_ne (c : Dev nD) (r : Fin 31) : backBy c r.succ ≠ c := fun e => by
  have h := congrArg Fin.val e
  have h' : c.val < 32 := c.isLt
  simp only [backBy, Fin.val_succ] at h; omega

/-- The peers at one distance are a permutation of the mesh. -/
def peerE (r : Fin 31) : Dev nD ≃ Dev nD := ⟨fun c => peer c r, fun c => peer c (rev r), fun c => peer_rev c r, fun c => rev_peer c r⟩
/-- Complementing distances is a permutation. -/
def revE : Fin 31 ≃ Fin 31 := ⟨rev, rev, rev_rev, rev_rev⟩

/-! ## The buffers -/

abbrev mA : Memref sig .tc .vmem S1536x768 .f32 := Memref.whole cc0_stg0_0
abbrev mB : Memref sig .tc .vmem S768x1536 .f32 := Memref.whole cc0_stg1_0
abbrev mO : Memref sig .tc .vmem S1536x1536 .f32 := Memref.whole cc0_stg2_0
abbrev mS : Memref sig .tc .vmem S32x48x1536 .bf16 := Memref.whole cc0_scratch0
abbrev mG : Memref sig .tc .vmem S32x48x1536 .bf16 := Memref.whole cc0_scratch1
abbrev mC : Memref sig .tc .vmem S32x48x1536 .bf16 := Memref.whole cc0_scratch2
abbrev mR : Memref sig .tc .vmem S48x1536 .bf16 := Memref.whole cc0_scratch3

abbrev wS : mS.IsWhole := Memref.isWhole_whole _
abbrev wG : mG.IsWhole := Memref.isWhole_whole _
abbrev wC : mC.IsWhole := Memref.isWhole_whole _
abbrev wR : mR.IsWhole := Memref.isWhole_whole _

/-! ## Element sets -/

/-- Half `h` of slot `s`. -/
def sset (s : Fin 32) (h : Fin 2) : Finset S32x48x1536.Idx := Finset.univ.filter fun i => (i 0).val = s.val ∧ (i 1).val / 24 = h.val
/-- Half `h` of every slot. -/
def hset (h : Fin 2) : Finset S32x48x1536.Idx := Finset.univ.filter fun i => (i 1).val / 24 = h.val
/-- Half `h` of the reduced chunk. -/
def rset (h : Fin 2) : Finset S48x1536.Idx := Finset.univ.filter fun i => (i 0).val / 24 = h.val
/-- Half `h` of the result's chunk `s`. -/
def oset (s : Fin 32) (h : Fin 2) : Finset S1536x1536.Idx := Finset.univ.filter fun i => (i 0).val / 24 = 2 * s.val + h.val

theorem mem_sset {s : Fin 32} {h : Fin 2} {i : S32x48x1536.Idx} : i ∈ sset s h ↔ (i 0).val = s.val ∧ (i 1).val / 24 = h.val := by
  simp [sset]
theorem mem_hset {h : Fin 2} {i : S32x48x1536.Idx} : i ∈ hset h ↔ (i 1).val / 24 = h.val := by simp [hset]
theorem mem_rset {h : Fin 2} {i : S48x1536.Idx} : i ∈ rset h ↔ (i 0).val / 24 = h.val := by simp [rset]
theorem mem_oset {s : Fin 32} {h : Fin 2} {i : S1536x1536.Idx} : i ∈ oset s h ↔ (i 0).val / 24 = 2 * s.val + h.val := by simp [oset]

theorem sset_disjoint (s s' : Fin 32) (h h' : Fin 2) (hne : (s, h) ≠ (s', h')) : Disjoint (sset s h) (sset s' h') :=
  Finset.disjoint_left.mpr fun i hi hi' => hne (by
    rw [mem_sset] at hi hi'
    exact Prod.ext (Fin.ext (hi.1.symm.trans hi'.1)) (Fin.ext (hi.2.symm.trans hi'.2)))
theorem hset_disjoint : Disjoint (hset 0) (hset 1) :=
  Finset.disjoint_left.mpr fun i hi hi' => by rw [mem_hset] at hi hi'; rw [hi] at hi'; exact absurd hi' (by decide)
theorem rset_disjoint : Disjoint (rset 0) (rset 1) :=
  Finset.disjoint_left.mpr fun i hi hi' => by rw [mem_rset] at hi hi'; rw [hi] at hi'; exact absurd hi' (by decide)
theorem hset_eq (h : Fin 2) : Finset.univ.biUnion (fun s => sset s h) = hset h := by
  ext i
  simp only [Finset.mem_biUnion, Finset.mem_univ, true_and, mem_sset, mem_hset]
  exact ⟨fun ⟨_, h⟩ => h.2, fun h => ⟨i 0, rfl, h⟩⟩
theorem hset_union : hset 0 ∪ hset 1 = Finset.univ := by
  ext i
  have h : (i 1).val < 48 := (i 1).isLt
  simp only [Finset.mem_union, mem_hset, Finset.mem_univ, iff_true, Fin.val_zero, Fin.val_one]
  omega
theorem rset_union : rset 0 ∪ rset 1 = Finset.univ := by
  ext i
  have h : (i 0).val < 48 := (i 0).isLt
  simp only [Finset.mem_union, mem_rset, Finset.mem_univ, iff_true, Fin.val_zero, Fin.val_one]
  omega

/-- The rectangle of a half slot is its element set; -/
theorem rect24 (r : Fin 31) (h : Fin 2) : (Rect.unit (s := S32x48x1536) ![1 + r.val, 24 * h.val, 0] S1x24x1536.size (inb24 r h)).set = sset r.succ h := by
  ext i
  have h1 : (i 1).val < 48 := (i 1).isLt
  have h2 : (i 2).val < 1536 := (i 2).isLt
  rw [Rect.mem_set_unit, mem_sset]
  simp [Fin.forall_fin_succ]
  omega
/-- that of a slot is its two halves; -/
theorem rect48 (r : Fin 31) : (Rect.unit (s := S32x48x1536) ![1 + r.val, 0, 0] S1x48x1536.size (inb48 r)).set = sset r.succ 0 ∪ sset r.succ 1 := by
  ext i
  have h1 : (i 1).val < 48 := (i 1).isLt
  have h2 : (i 2).val < 1536 := (i 2).isLt
  rw [Rect.mem_set_unit, Finset.mem_union, mem_sset, mem_sset]
  simp [Fin.forall_fin_succ]
  omega
theorem rect48_zero : (Rect.unit (s := S32x48x1536) ![0, 0, 0] S1x48x1536.size inb_S32x48x1536_S1x48x1536_0_0_0).set = sset 0 0 ∪ sset 0 1 := by
  ext i
  have h1 : (i 1).val < 48 := (i 1).isLt
  have h2 : (i 2).val < 1536 := (i 2).isLt
  rw [Rect.mem_set_unit, Finset.mem_union, mem_sset, mem_sset]
  simp [Fin.forall_fin_succ]
  omega
theorem rectAll (h : Fin 2) : (Rect.unit (s := S32x48x1536) ![0, 24 * h.val, 0] S32x24x1536.size (inbAll h)).set = hset h := by
  ext i
  have h0 : (i 0).val < 32 := (i 0).isLt
  have h1 : (i 1).val < 48 := (i 1).isLt
  have h2 : (i 2).val < 1536 := (i 2).isLt
  rw [Rect.mem_set_unit, mem_hset]
  simp [Fin.forall_fin_succ]
  omega
theorem rectRed (h : Fin 2) : (Rect.unit (s := S48x1536) ![24 * h.val, 0] S24x1536.size (inbRed h)).set = rset h := by
  ext i
  have h1 : (i 1).val < 1536 := (i 1).isLt
  rw [Rect.mem_set_unit, mem_rset]
  simp [Fin.forall_fin_succ]
  omega

theorem slotS_set (r : Fin 31) (h : Fin 2) : (slotM mS r h).view.set = sset r.succ h :=
  ((View.set_reshape _ _).trans (View.set_slice_whole _ _)).trans (rect24 r h)
theorem slotG_set (r : Fin 31) (h : Fin 2) : (slotM mG r h).view.set = sset r.succ h :=
  ((View.set_reshape _ _).trans (View.set_slice_whole _ _)).trans (rect24 r h)
theorem slotC_set (r : Fin 31) (h : Fin 2) : (slotM mC r h).view.set = sset r.succ h :=
  ((View.set_reshape _ _).trans (View.set_slice_whole _ _)).trans (rect24 r h)
theorem redM_set (h : Fin 2) : (redM mR h).view.set = rset h := (View.set_slice_whole _ _).trans (rectRed h)

/-! ## Contents -/

variable (m : (ℓ : Loc nD τ sig) → Buf (Elt F) ℓ)

/-- The left operand's block, as staged. -/
def xstg (c : Dev nD) : Vec F S1536x768 .f32 := (win0_0.blk (0 : Fin 1)).view.read (Elt F) (m ((c : Thread nD τ).loc main_arg0))
/-- The right operand's block, as staged. -/
def ystg (c : Dev nD) : Vec F S768x1536 .f32 := (win0_1.blk (0 : Fin 1)).view.read (Elt F) (m ((c : Thread nD τ).loc main_arg1))
/-- The partial product of device `c`. -/
def prodC (c : Dev nD) : Vec F S1536x1536 .f32 := payProd (xstg m c) (ystg m c)

/-- Chunk `t` of an array of 32 chunks of rows. -/
def chunk (t : Fin 32) (X : Vec F S1536x1536 .f32) : Vec F S48x1536 .f32 := fun j => X (ix2 ⟨48 * t.val + (j 0).val, by
  have h : (j 0).val < 48 := (j 0).isLt
  have h' : t.val < 32 := t.isLt
  omega⟩ (j 1))
/-- Half `h` of every slot. -/
def halfAll (h : Fin 2) (G : Vec F S32x48x1536 .bf16) : Vec F S32x24x1536 .bf16 := fun j => G (ix3 (j 0) ⟨24 * h.val + (j 1).val, by
  have h1 : (j 1).val < 24 := (j 1).isLt
  have h2 : h.val < 2 := h.isLt
  omega⟩ (j 2))
/-- Half `h` of slot `s`. -/
def halfOf (s : Fin 32) (h : Fin 2) (G : Vec F S32x48x1536 .bf16) : Vec F S1x24x1536 .bf16 := fun j => G (ix3 s ⟨24 * h.val + (j 1).val, by
  have h1 : (j 1).val < 24 := (j 1).isLt
  have h2 : h.val < 2 := h.isLt
  omega⟩ (j 2))

/-- The chunk that slot `s` of device `c` holds. -/
def aheadBy (c : Dev nD) (s : Fin 32) : Fin 32 := ⟨(c.val + s.val) % 32, Nat.mod_lt _ (by decide)⟩

/-- The staging buffer: slot `s` the chunk of the device `s` further on. -/
def stageC (c : Dev nD) : Vec F S32x48x1536 .bf16 := fun i => payStage (chunk (aheadBy c (i 0)) (prodC m c)) (ix3 (0 : Fin 1) (i 1) (i 2))
/-- The gather buffer: slot `s` what the device `s` further back staged for this one. -/
def gathC (c : Dev nD) : Vec F S32x48x1536 .bf16 := fun i => stageC m (backBy c (i 0)) i
/-- The reduced chunk. -/
def redC (c : Dev nD) : Vec F S48x1536 .bf16 := fun i => payRed (halfAll ⟨(i 0).val / 24, by
  have h : (i 0).val < 48 := (i 0).isLt
  omega⟩ (gathC m c)) (ix2 ⟨(i 0).val % 24, Nat.mod_lt _ (by decide)⟩ (i 1))
/-- The broadcast buffer: slot `s` the reduced chunk of the device `s` further back. -/
def bcastC (c : Dev nD) : Vec F S32x48x1536 .bf16 := fun i => redC m (backBy c (i 0)) (ix2 (i 1) (i 2))
/-- The result: the device's own chunk from its sum, the others from the broadcast buffer. -/
def outC (c : Dev nD) : Vec F S1536x1536 .f32 := fun i =>
  have hi : (i 0).val < 1536 := (i 0).isLt
  let h : Fin 2 := ⟨(i 0).val / 24 % 2, Nat.mod_lt _ (by decide)⟩
  let p : Fin 24 := ⟨(i 0).val % 24, Nat.mod_lt _ (by decide)⟩
  if (i 0).val / 48 = c.val then paySum (halfAll h (gathC m c)) (ix2 p (i 1))
  else payOut (halfOf (backBy c ⟨(i 0).val / 48, by omega⟩) h (bcastC m c)) (ix2 p (i 1))

/-! ## What the loads read -/

omit [FloatOps F] in
theorem read_chunk1 (c : Dev nD) (r : Fin 31) (X : Vec F S1536x1536 .f32) :
    mO.view.readAt (Elt F) (Rect.unit (s := S1536x1536) (k0_off1 c (BitVec.ofNat 32 (1 + r.val))) S48x1536.size (k0_off1_inb c r)).toLoadRect X
      = chunk (aheadBy c r.succ) X := by
  funext j
  refine congrArg X (funext fun a => Fin.ext ?_)
  refine (congrArg (· + 1 * (j a).val) (congrFun (k0_off1_eq c r) a)).trans ?_
  match a with
  | ⟨0, _⟩ =>
    show 48 * ((c.val + r.val + 1) % 32) + 1 * (j 0).val = 48 * ((c.val + r.succ.val) % 32) + (j 0).val
    rw [one_mul, Fin.val_succ, add_assoc]
  | ⟨1, _⟩ => exact (Nat.zero_add _).trans (one_mul _)
omit [FloatOps F] in
theorem read_chunk2 (c : Dev nD) (X : Vec F S1536x1536 .f32) :
    mO.view.readAt (Elt F) (Rect.unit (s := S1536x1536) (k0_off2 c) S48x1536.size (k0_off2_inb c)).toLoadRect X = chunk (aheadBy c 0) X := by
  funext j
  refine congrArg X (funext fun a => Fin.ext ?_)
  have hc : c.val < 32 := c.isLt
  refine (congrArg (· + 1 * (j a).val) (congrFun (k0_off2_eq c) a)).trans ?_
  match a with
  | ⟨0, _⟩ =>
    show 48 * c.val + 1 * (j 0).val = 48 * ((c.val + 0) % 32) + (j 0).val
    rw [one_mul, add_zero, Nat.mod_eq_of_lt hc]
  | ⟨1, _⟩ => exact (Nat.zero_add _).trans (one_mul _)
omit [FloatOps F] in
theorem read_halfAll (h : Fin 2) (G : Vec F S32x48x1536 .bf16) :
    (mG.access (Rect.unit (s := S32x48x1536) ![0, 24 * h.val, 0] S32x24x1536.size (inbAll h))).read (Elt F) G = halfAll h G := by
  funext j
  refine congrArg G (funext fun a => Fin.ext ?_)
  match a with
  | ⟨0, _⟩ => exact (Nat.zero_add _).trans (one_mul _)
  | ⟨1, _⟩ => exact congrArg (24 * h.val + ·) (one_mul (j 1).val)
  | ⟨2, _⟩ => exact (Nat.zero_add _).trans (one_mul _)
omit [FloatOps F] in
theorem read_halfOf (r : Fin 31) (h : Fin 2) (G : Vec F S32x48x1536 .bf16) :
    (mC.access (Rect.unit (s := S32x48x1536) ![1 + r.val, 24 * h.val, 0] S1x24x1536.size (inb24 r h))).read (Elt F) G = halfOf r.succ h G := by
  funext j
  refine congrArg G (funext fun a => Fin.ext ?_)
  have h0 : (j 0).val < 1 := (j 0).isLt
  match a with
  | ⟨0, _⟩ =>
    show 1 + r.val + 1 * (j 0).val = r.succ.val
    rw [Fin.val_succ]; omega
  | ⟨1, _⟩ => exact congrArg (24 * h.val + ·) (one_mul (j 1).val)
  | ⟨2, _⟩ => exact (Nat.zero_add _).trans (one_mul _)

/-! ## What the stores write -/

theorem exists_emb {s : Shape} {r : Rect s} {i : s.Idx} (hi : i ∈ r.set) : ∃ j, r.emb j = i := by
  rw [← Rect.map_emb_univ] at hi
  obtain ⟨j, -, e⟩ := Finset.mem_map.mp hi
  exact ⟨j, e⟩

/-- A slot's staging store writes the staged contents. -/
theorem write_stage (c : Dev nD) (r : Fin 31) (f : Vec F S32x48x1536 .bf16) {i : S32x48x1536.Idx} (hi : i ∈ sset r.succ 0 ∪ sset r.succ 1) :
    (mS.access (Rect.unit (s := S32x48x1536) ![1 + r.val, 0, 0] S1x48x1536.size (inb48 r))).write (Elt F) f
      (payStage (chunk (aheadBy c r.succ) (prodC m c))) Finset.univ i = stageC m c i := by
  rw [← rect48 r] at hi
  obtain ⟨j, rfl⟩ := exists_emb hi
  refine (View.write_emb_of_mem _ _ (Finset.mem_univ j)).trans ?_
  have h0 : (j 0).val < 1 := (j 0).isLt
  have e0 : ((Rect.unit (s := S32x48x1536) ![1 + r.val, 0, 0] S1x48x1536.size (inb48 r)).emb j 0) = r.succ := Fin.ext (by
    show 1 + r.val + 1 * (j 0).val = r.succ.val
    rw [Fin.val_succ]; omega)
  have e1 : ((Rect.unit (s := S32x48x1536) ![1 + r.val, 0, 0] S1x48x1536.size (inb48 r)).emb j 1) = j 1 := Fin.ext (by
    show 0 + 1 * (j 1).val = (j 1).val
    omega)
  have e2 : ((Rect.unit (s := S32x48x1536) ![1 + r.val, 0, 0] S1x48x1536.size (inb48 r)).emb j 2) = j 2 := Fin.ext (by
    show 0 + 1 * (j 2).val = (j 2).val
    omega)
  unfold stageC
  rw [e0, e1, e2]
  refine congrArg (payStage _) (funext fun a => ?_)
  match a with
  | ⟨0, _⟩ => exact Fin.ext (by show (j 0).val = 0; omega)
  | ⟨1, _⟩ => rfl
  | ⟨2, _⟩ => rfl

/-- The device's own slot of the gather buffer. -/
theorem write_own (c : Dev nD) (f : Vec F S32x48x1536 .bf16) {i : S32x48x1536.Idx} (hi : i ∈ sset 0 0 ∪ sset 0 1) :
    (mG.access (Rect.unit (s := S32x48x1536) ![0, 0, 0] S1x48x1536.size inb_S32x48x1536_S1x48x1536_0_0_0)).write (Elt F) f
      (payStage (chunk (aheadBy c 0) (prodC m c))) Finset.univ i = gathC m c i := by
  rw [← rect48_zero] at hi
  obtain ⟨j, rfl⟩ := exists_emb hi
  refine (View.write_emb_of_mem _ _ (Finset.mem_univ j)).trans ?_
  have h0 : (j 0).val < 1 := (j 0).isLt
  have e0 : ((Rect.unit (s := S32x48x1536) ![0, 0, 0] S1x48x1536.size inb_S32x48x1536_S1x48x1536_0_0_0).emb j 0) = (0 : Fin 32) := Fin.ext (by
    show 0 + 1 * (j 0).val = 0
    omega)
  have e1 : ((Rect.unit (s := S32x48x1536) ![0, 0, 0] S1x48x1536.size inb_S32x48x1536_S1x48x1536_0_0_0).emb j 1) = j 1 := Fin.ext (by
    show 0 + 1 * (j 1).val = (j 1).val
    omega)
  have e2 : ((Rect.unit (s := S32x48x1536) ![0, 0, 0] S1x48x1536.size inb_S32x48x1536_S1x48x1536_0_0_0).emb j 2) = j 2 := Fin.ext (by
    show 0 + 1 * (j 2).val = (j 2).val
    omega)
  unfold gathC stageC
  rw [e0, e1, e2, backBy_zero]
  refine congrArg (payStage _) (funext fun a => ?_)
  match a with
  | ⟨0, _⟩ => exact Fin.ext (by show (j 0).val = 0; omega)
  | ⟨1, _⟩ => rfl
  | ⟨2, _⟩ => rfl

/-- The reduced half. -/
theorem write_red (c : Dev nD) (h : Fin 2) (f : Vec F S48x1536 .bf16) {i : S48x1536.Idx} (hi : i ∈ rset h) :
    (mR.access (Rect.unit (s := S48x1536) ![24 * h.val, 0] S24x1536.size (inbRed h))).write (Elt F) f
      (payRed (halfAll h (gathC m c))) Finset.univ i = redC m c i := by
  rw [← rectRed h] at hi
  obtain ⟨j, rfl⟩ := exists_emb hi
  refine (View.write_emb_of_mem _ _ (Finset.mem_univ j)).trans ?_
  have hj : (j 0).val < 24 := (j 0).isLt
  have e0 : ((Rect.unit (s := S48x1536) ![24 * h.val, 0] S24x1536.size (inbRed h)).emb j 0).val = 24 * h.val + (j 0).val := by
    show 24 * h.val + 1 * (j 0).val = _
    omega
  have e1 : ((Rect.unit (s := S48x1536) ![24 * h.val, 0] S24x1536.size (inbRed h)).emb j 1) = j 1 := Fin.ext (by
    show 0 + 1 * (j 1).val = (j 1).val
    omega)
  have hd : ∀ p, (⟨((Rect.unit (s := S48x1536) ![24 * h.val, 0] S24x1536.size (inbRed h)).emb j 0).val / 24, p⟩ : Fin 2) = h := fun _ => Fin.ext (by
    show _ / 24 = h.val
    rw [e0]; omega)
  unfold redC
  rw [hd, e1]
  refine congrArg (payRed _) (funext fun a => ?_)
  match a with
  | ⟨0, _⟩ => exact Fin.ext (by show (j 0).val = _ % 24; rw [e0]; omega)
  | ⟨1, _⟩ => rfl

/-! ## What the transfers write -/

/-- A half slot of a device's staging buffer lands in its peer's gather buffer. -/
theorem send_gath (c : Dev nD) (r : Fin 31) (h : Fin 2) (fd : Vec F S32x48x1536 .bf16) {i : S32x48x1536.Idx} (hi : i ∈ (slotM mG r h).view.set) :
    (slotM mG r h).view.write (Elt F) fd ((slotM mS r h).view.read (Elt F) (stageC m c)) Finset.univ i = gathC m (peer c r) i := by
  have hs : i ∈ sset r.succ h := slotG_set r h ▸ hi
  obtain ⟨j, -, rfl⟩ := Finset.mem_map.mp hi
  refine (View.write_emb_of_mem _ _ (Finset.mem_univ j)).trans ?_
  have e0 : (slotM mG r h).view.emb j 0 = r.succ := Fin.ext (mem_sset.mp hs).1
  unfold gathC
  rw [e0, backBy_peer]
  rfl

/-- The two coordinates of a half slot's element within its slot. -/
theorem slotC_emb (r : Fin 31) (h : Fin 2) (j : S24x1536.Idx) :
    ((slotM mC r h).view.emb j 1).val = 24 * h.val + (j 0).val ∧ ((slotM mC r h).view.emb j 2).val = (j 1).val := by
  have e : ∀ hn, Shape.reshapeEquiv (s := S1x24x1536) (s' := S24x1536) hn j = (ix3 (0 : Fin 1) (j 0) (j 1) : S1x24x1536.Idx) := fun hn =>
    (Shape.reshapeEquiv_cons_one (n := 2) (d := ![24, 1536]) hn j).trans (funext fun a => by
      match a with
      | ⟨0, _⟩ => rfl
      | ⟨1, _⟩ => rfl
      | ⟨2, _⟩ => rfl)
  have e' : (slotM mC r h).view.emb j
      = (Rect.unit (s := S32x48x1536) ![1 + r.val, 24 * h.val, 0] S1x24x1536.size (inb24 r h)).emb (ix3 (0 : Fin 1) (j 0) (j 1) : S1x24x1536.Idx) :=
    congrArg (Rect.unit (s := S32x48x1536) ![1 + r.val, 24 * h.val, 0] S1x24x1536.size (inb24 r h)).emb (e _)
  rw [e']
  exact ⟨congrArg (24 * h.val + ·) (one_mul (j 0).val), (Nat.zero_add _).trans (one_mul _)⟩

/-- A half of a device's reduced chunk lands in its peer's broadcast buffer. -/
theorem send_bcast (c : Dev nD) (r : Fin 31) (h : Fin 2) (fd : Vec F S32x48x1536 .bf16) {i : S32x48x1536.Idx} (hi : i ∈ (slotM mC r h).view.set) :
    (slotM mC r h).view.write (Elt F) fd ((redM mR h).view.read (Elt F) (redC m c)) Finset.univ i = bcastC m (peer c r) i := by
  have hs : i ∈ sset r.succ h := slotC_set r h ▸ hi
  obtain ⟨j, -, rfl⟩ := Finset.mem_map.mp hi
  refine (View.write_emb_of_mem _ _ (Finset.mem_univ j)).trans ?_
  have e0 : (slotM mC r h).view.emb j 0 = r.succ := Fin.ext (mem_sset.mp hs).1
  unfold bcastC
  rw [e0, backBy_peer]
  refine congrArg (redC m c) (funext fun a => Fin.ext ?_)
  match a with
  | ⟨0, _⟩ => exact (congrArg (24 * h.val + ·) (one_mul (j 0).val)).trans (slotC_emb r h j).1.symm
  | ⟨1, _⟩ => exact ((Nat.zero_add _).trans (one_mul _)).trans (slotC_emb r h j).2.symm

/-! ## The result's stores -/

theorem outC_own (c : Dev nD) (h : Fin 2) (i : S1536x1536.Idx) (p : Fin 24) (e : (i 0).val = 48 * c.val + 24 * h.val + p.val) :
    outC m c i = paySum (halfAll h (gathC m c)) (ix2 p (i 1)) := by
  have hp : p.val < 24 := p.isLt
  have hh : h.val < 2 := h.isLt
  have e1 : ∀ q, (⟨(i 0).val / 24 % 2, q⟩ : Fin 2) = h := fun _ => Fin.ext (by show _ / 24 % 2 = h.val; omega)
  have e2 : ∀ q, (⟨(i 0).val % 24, q⟩ : Fin 24) = p := fun _ => Fin.ext (by show _ % 24 = p.val; omega)
  unfold outC
  simp only [e1, e2]
  exact if_pos (by omega)

theorem outC_other (c : Dev nD) (r : Fin 31) (h : Fin 2) (i : S1536x1536.Idx) (p : Fin 24)
    (e : (i 0).val = 48 * (backBy c r.succ).val + 24 * h.val + p.val) :
    outC m c i = payOut (halfOf r.succ h (bcastC m c)) (ix2 p (i 1)) := by
  have hp : p.val < 24 := p.isLt
  have hh : h.val < 2 := h.isLt
  have hc : c.val < 32 := c.isLt
  have e1 : ∀ q, (⟨(i 0).val / 24 % 2, q⟩ : Fin 2) = h := fun _ => Fin.ext (by show _ / 24 % 2 = h.val; omega)
  have e2 : ∀ q, (⟨(i 0).val % 24, q⟩ : Fin 24) = p := fun _ => Fin.ext (by show _ % 24 = p.val; omega)
  have hd : (i 0).val / 48 = (backBy c r.succ).val := by omega
  have e3 : ∀ q, backBy c ⟨(i 0).val / 48, q⟩ = r.succ := fun _ => Fin.ext (by
    show (c.val + (32 - (i 0).val / 48)) % 32 = r.succ.val
    rw [hd]; simp only [backBy, Fin.val_succ]; omega)
  unfold outC
  simp only [e1, e2, e3]
  exact if_neg fun e' => backBy_ne c r (Fin.ext (hd.symm.trans e'))

/-- The rectangle of the own half is its element set; -/
theorem rectOwn (c : Dev nD) (h : Fin 2) : (Rect.unit (s := S1536x1536) (k0_off3 c (BitVec.ofNat 32 (24 * h.val))) S24x1536.size (k0_off3_inb c h)).set = oset c h := by
  ext i
  have h1 : (i 1).val < 1536 := (i 1).isLt
  have hh : h.val < 2 := h.isLt
  rw [Rect.mem_set_unit, mem_oset, k0_off3_eq]
  simp [Fin.forall_fin_succ]
  omega
/-- so is that of a received half. -/
theorem rectOther (c : Dev nD) (r : Fin 31) (h : Fin 2) :
    (Rect.unit (s := S1536x1536) (k0_off4 c (BitVec.ofNat 32 (1 + r.val)) (BitVec.ofNat 32 (24 * h.val))) S24x1536.size (k0_off4_inb c r h)).set = oset (backBy c r.succ) h := by
  ext i
  have h1 : (i 1).val < 1536 := (i 1).isLt
  have hh : h.val < 2 := h.isLt
  have hc : c.val < 32 := c.isLt
  rw [Rect.mem_set_unit, mem_oset, k0_off4_eq]
  simp [Fin.forall_fin_succ, backBy]
  omega

theorem write_outOwn (c : Dev nD) (h : Fin 2) (f : Vec F S1536x1536 .f32) {i : S1536x1536.Idx} (hi : i ∈ oset c h) :
    (mO.access (Rect.unit (s := S1536x1536) (k0_off3 c (BitVec.ofNat 32 (24 * h.val))) S24x1536.size (k0_off3_inb c h))).write (Elt F) f
      (paySum (halfAll h (gathC m c))) Finset.univ i = outC m c i := by
  rw [← rectOwn c h] at hi
  obtain ⟨j, rfl⟩ := exists_emb hi
  refine (View.write_emb_of_mem _ _ (Finset.mem_univ j)).trans ?_
  have e1 : ((Rect.unit (s := S1536x1536) (k0_off3 c (BitVec.ofNat 32 (24 * h.val))) S24x1536.size (k0_off3_inb c h)).emb j 1) = j 1 := Fin.ext (by
    show k0_off3 c (BitVec.ofNat 32 (24 * h.val)) 1 + 1 * (j 1).val = (j 1).val
    exact (congrArg (· + 1 * (j 1).val) (congrFun (k0_off3_eq c h) 1)).trans ((Nat.zero_add _).trans (one_mul _)))
  refine Eq.trans ?_ (outC_own m c h _ (j 0) ?_).symm
  · rw [e1]
    refine congrArg (paySum _) (funext fun a => ?_)
    match a with
    | ⟨0, _⟩ => rfl
    | ⟨1, _⟩ => rfl
  · show k0_off3 c (BitVec.ofNat 32 (24 * h.val)) 0 + 1 * (j 0).val = _
    exact (congrArg (· + 1 * (j 0).val) (congrFun (k0_off3_eq c h) 0)).trans (congrArg (48 * c.val + 24 * h.val + ·) (one_mul _))

theorem write_outOther (c : Dev nD) (r : Fin 31) (h : Fin 2) (f : Vec F S1536x1536 .f32) {i : S1536x1536.Idx} (hi : i ∈ oset (backBy c r.succ) h) :
    (mO.access (Rect.unit (s := S1536x1536) (k0_off4 c (BitVec.ofNat 32 (1 + r.val)) (BitVec.ofNat 32 (24 * h.val))) S24x1536.size (k0_off4_inb c r h))).write (Elt F) f
      (payOut (halfOf r.succ h (bcastC m c))) Finset.univ i = outC m c i := by
  rw [← rectOther c r h] at hi
  obtain ⟨j, rfl⟩ := exists_emb hi
  refine (View.write_emb_of_mem _ _ (Finset.mem_univ j)).trans ?_
  have e1 : ((Rect.unit (s := S1536x1536) (k0_off4 c (BitVec.ofNat 32 (1 + r.val)) (BitVec.ofNat 32 (24 * h.val))) S24x1536.size (k0_off4_inb c r h)).emb j 1) = j 1 := Fin.ext (by
    show k0_off4 c (BitVec.ofNat 32 (1 + r.val)) (BitVec.ofNat 32 (24 * h.val)) 1 + 1 * (j 1).val = (j 1).val
    exact (congrArg (· + 1 * (j 1).val) (congrFun (k0_off4_eq c r h) 1)).trans ((Nat.zero_add _).trans (one_mul _)))
  refine Eq.trans ?_ (outC_other m c r h _ (j 0) ?_).symm
  · rw [e1]
    refine congrArg (payOut _) (funext fun a => ?_)
    match a with
    | ⟨0, _⟩ => rfl
    | ⟨1, _⟩ => rfl
  · show k0_off4 c (BitVec.ofNat 32 (1 + r.val)) (BitVec.ofNat 32 (24 * h.val)) 0 + 1 * (j 0).val = _
    refine (congrArg (· + 1 * (j 0).val) (congrFun (k0_off4_eq c r h) 0)).trans ?_
    show 48 * ((c.val + 31 - r.val) % 32) + 24 * h.val + 1 * (j 0).val = 48 * ((c.val + (32 - (r.val + 1))) % 32) + 24 * h.val + (j 0).val
    have hr : r.val < 31 := r.isLt
    rw [one_mul, show c.val + 31 - r.val = c.val + (32 - (r.val + 1)) by omega]

end Cert.AllReduce

end
-- ==== Proof.Protocol.lean ====
/- The protocol between the devices: the semaphore cells, what each payment hands over, what each device owes, and the
   levels that order the waits. -/
module

public import proofs.«01_k».proof.Proof.Contents
public import Idealize.ShloMosaic.Lib.Pipeline.Launch
public import Idealize.ShloMosaic.Lib.Pipeline.Kit
public import Idealize.ShloMosaic.Lib.Ring
public import Idealize.ShloMosaic.Lib.Ring.Tabled
public import Idealize.ShloMosaic.Lib.Tactic

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A transfer cell of a device: its kind (first phase sent and received, second phase sent and received), half and
    distance. -/
abbrev KI : Type := Fin 4 × Fin 2 × Fin 31
/-- A cell of a device: the barrier's or a transfer's. -/
abbrev CK : Type := Unit ⊕ KI

def semArr : Fin 4 → DmaSems sig S2x32
  | 0 => cc0_scratch4
  | 1 => cc0_scratch5
  | 2 => cc0_scratch6
  | 3 => cc0_scratch7
def semOf (x : KI) : DmaSem sig := semAt (semArr x.1) x.2.1 x.2.2
def csem : CK → SemLoc sig
  | .inl _ => .reg barSem
  | .inr x => .dma (semOf x)
abbrev kcell (ck : Dev nD × CK) : GSem nD τ sig := ((ck.1 : Thread nD τ), csem ck.2)
abbrev barCell (c : Dev nD) : GSem nD τ sig := kcell (c, .inl ())
abbrev xCell (c : Dev nD) (k : Fin 4) (h : Fin 2) (r : Fin 31) : GSem nD τ sig := kcell (c, .inr (k, h, r))

/-- Which transfer cell a semaphore is. -/
def decode (q : DmaSem sig) : Option KI :=
  let v := q.val - 3
  if hk : 3 ≤ q.val ∧ v / 64 < 4 ∧ 1 ≤ v % 32 then
    some (⟨v / 64, hk.2.1⟩, ⟨v % 64 / 32, by omega⟩, ⟨v % 32 - 1, by omega⟩)
  else none
theorem decode_semOf : ∀ x : KI, decode (semOf x) = some x := by decide +kernel

/-- Which cell of its device a semaphore is. -/
def cls (g : GSem nD τ sig) : Option CK :=
  if g.1.2 = .tc then
    match g.2 with
    | .reg s => if s = barSem then some (.inl ()) else none
    | .dma q => (decode q).map .inr
  else none
theorem cls_kcell (c : Dev nD) (k : CK) : cls (kcell (c, k)) = some k := by
  match k with
  | .inl () => rfl
  | .inr x =>
    show (decode (semOf x)).map Sum.inr = _
    rw [decode_semOf]; rfl
theorem csem_injective : Function.Injective csem := fun k k' h => by
  have e : kcell ((0 : Fin 32), k) = kcell ((0 : Fin 32), k') := congrArg (Prod.mk _) h
  exact Option.some.inj ((cls_kcell _ k).symm.trans ((congrArg cls e).trans (cls_kcell _ k')))
theorem kcell_injective : Function.Injective (kcell : Dev nD × CK → GSem nD τ sig) := by
  rintro ⟨c, k⟩ ⟨c', k'⟩ h
  have h1 : c = c' := congrArg (fun g : GSem nD τ sig => g.1.1) h
  subst h1
  exact Prod.ext rfl (csem_injective (congrArg Prod.snd h))
theorem kcell_iff {c c' : Dev nD} {k k' : CK} : kcell (c, k) = kcell (c', k') ↔ c = c' ∧ k = k' :=
  ⟨fun h => Prod.ext_iff.mp (kcell_injective h), fun h => by rw [h.1, h.2]⟩

/-- A half slot's credit. -/
def N : ℕ := (slotM mG 0 0).view.dmaCredit
theorem N_pos : 0 < N := View.dmaCredit_pos _ (by decide)
theorem creditS (r : Fin 31) (h : Fin 2) : (slotM mS r h).view.dmaCredit = N := rfl
theorem creditG (r : Fin 31) (h : Fin 2) : (slotM mG r h).view.dmaCredit = N := rfl
theorem creditC (r : Fin 31) (h : Fin 2) : (slotM mC r h).view.dmaCredit = N := rfl
theorem creditR (h : Fin 2) : (redM mR h).view.dmaCredit = N := rfl

/-! ## The slots held -/

def stP (c : Dev nD) (r : Fin 31) (h : Fin 2) (f : Vec F S32x48x1536 .bf16) : sProp 𝕄 :=
  iprop((slotM mS r h).view.loc (c : Thread nD τ) ↦[(slotM mS r h).view.set]{fullShare} f)
def gaP (c : Dev nD) (r : Fin 31) (h : Fin 2) (f : Vec F S32x48x1536 .bf16) : sProp 𝕄 :=
  iprop((slotM mG r h).view.loc (c : Thread nD τ) ↦[(slotM mG r h).view.set]{fullShare} f)
def bcP (c : Dev nD) (r : Fin 31) (h : Fin 2) (f : Vec F S32x48x1536 .bf16) : sProp 𝕄 :=
  iprop((slotM mC r h).view.loc (c : Thread nD τ) ↦[(slotM mC r h).view.set]{fullShare} f)
/-- A part of the share of half `h` of the reduced chunk. -/
def rdP (c : Dev nD) (r : Fin 31) (h : Fin 2) (f : Vec F S48x1536 .bf16) : sProp 𝕄 :=
  iprop((redM mR h).view.loc (c : Thread nD τ) ↦[(redM mR h).view.set]{Ring.sharesN 31 fullShare r} f)

variable (m : (ℓ : Loc nD τ sig) → Buf (Elt F) ℓ)

/-! ## The schedule -/

/-- What a device hands over with its barrier signal: its slots of the gather and broadcast buffers that the signalled
    device will write. -/
def land (e : Dev nD) (r : Fin 31) : sProp 𝕄 :=
  iprop((∃ f, gaP (F := F) e r 0 f) ∗ (∃ f, gaP (F := F) e r 1 f) ∗ (∃ f, bcP (F := F) e r 0 f) ∗ (∃ f, bcP (F := F) e r 1 f))

/-- What a transfer's end hands over. -/
def xPay (c : Dev nD) (x : KI) : sProp 𝕄 := match x.1 with
  | 0 => stP c x.2.2 x.2.1 (stageC m c)
  | 1 => gaP c x.2.2 x.2.1 (gathC m c)
  | 2 => rdP c x.2.2 x.2.1 (redC m c)
  | 3 => bcP c x.2.2 x.2.1 (bcastC m c)

def pay (c : Dev nD) (k : CK) (d : Fin 31) : sProp 𝕄 := match k with
  | .inl _ => land (peer c d) d
  | .inr x => xPay m c x

def dutiesOf : Option CK → Finset (Fin 31)
  | some (.inl _) => Finset.univ
  | some (.inr _) => {0}
  | none => ∅
def amountOf : Option CK → ℕ
  | some (.inl _) => 1
  | _ => N
theorem amountOf_pos (k : Option CK) : 0 < amountOf k := by
  unfold amountOf; split
  · exact Nat.one_pos
  · exact N_pos

/-- One round: a barrier cell has a duty of one unit from each peer; a transfer cell one duty of a half slot's credit. -/
def Rd : Rounds.Schedule (GSem nD τ sig) (Fin 31) 𝕄 where
  duties g r := if r = 0 then dutiesOf (cls g) else ∅
  unitless _ := False
  amount g _ _ := amountOf (cls g)
  payload g _ d := match cls g with
    | some k => pay m g.1.1 k d
    | none => iprop(emp)
  amount_pos g _ _ _ := amountOf_pos _

instance pay_storable (c : Dev nD) (k : CK) (d : Fin 31) : BI.Storable (upEmb : UEmb _ 𝕄) (pay m c k d) := by
  unfold pay; split
  · unfold land gaP bcP; infer_instance
  · unfold xPay; split
    · unfold stP; infer_instance
    · unfold gaP; infer_instance
    · unfold rdP; infer_instance
    · unfold bcP; infer_instance

instance Rd_storable (g : GSem nD τ sig) (r : ℕ) (d : Fin 31) : BI.Storable (upEmb : UEmb _ 𝕄) ((Rd (F := F) m).payload g r d) := by
  show BI.Storable upEmb (match cls g with | some k => pay m g.1.1 k d | none => iprop(emp))
  split <;> infer_instance

section Sched
variable (c : Dev nD)

theorem duties_bar : (Rd (F := F) m).duties (barCell c) 0 = Finset.univ := by
  show (if (0 : ℕ) = 0 then dutiesOf (cls (barCell c)) else ∅) = _
  rw [if_pos rfl, cls_kcell]; rfl
theorem duties_x (x : KI) : (Rd (F := F) m).duties (kcell (c, .inr x)) 0 = {0} := by
  show (if (0 : ℕ) = 0 then dutiesOf (cls (kcell (c, .inr x))) else ∅) = _
  rw [if_pos rfl, cls_kcell]; rfl
theorem duties_later (g : GSem nD τ sig) : ∀ r, 1 ≤ r → (Rd (F := F) m).duties g r = ∅ :=
  fun r hr => if_neg (by omega)
theorem amount_bar (d : Fin 31) : (Rd (F := F) m).amount (barCell c) 0 d = 1 := by
  show amountOf (cls (barCell c)) = 1
  rw [cls_kcell]; rfl
theorem amount_x (x : KI) (d : Fin 31) : (Rd (F := F) m).amount (kcell (c, .inr x)) 0 d = N := by
  show amountOf (cls (kcell (c, .inr x))) = N
  rw [cls_kcell]; rfl
theorem payload_k (k : CK) (d : Fin 31) : (Rd (F := F) m).payload (kcell (c, k)) 0 d = pay m c k d := by
  show (match cls (kcell (c, k)) with | some k => pay m c k d | none => iprop(emp)) = _
  rw [cls_kcell]
theorem expect_bar : (Rd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_x (x : KI) : (Rd (F := F) m).expect (kcell (c, .inr x)) 0 = N := by
  unfold Schedule.expect Schedule.amountOf; rw [duties_x, Finset.sum_singleton, amount_x]
theorem rest_bar : bigSep ((Rd (F := F) m).duties (barCell c) 0 \ ∅) (fun d => (Rd (F := F) m).payload (barCell c) 0 d)
    = bigSep Finset.univ fun d => land (F := F) (peer c d) d := by
  rw [Finset.sdiff_empty, duties_bar]; exact bigSep_congr fun d _ => payload_k m c _ d
theorem rest_x (x : KI) : bigSep ((Rd (F := F) m).duties (kcell (c, .inr x)) 0 \ ∅) (fun d => (Rd (F := F) m).payload (kcell (c, .inr x)) 0 d)
    = xPay m c x := by
  rw [Finset.sdiff_empty, duties_x, bigSep_singleton, payload_k]; rfl

end Sched

/-! ## What is owed -/

/-- What is owed to a list of cells, the next payment outermost. -/
def owedL (f : Fin 31 → CellTallies nD τ sig Unit) : List (Fin 31) → CellTallies nD τ sig Unit
  | [] => 0
  | a :: l => owedL f l + f a

/-- The signals to the peers. -/
abbrev oBar (c : Dev nD) : List (Fin 31) → CellTallies nD τ sig Unit := owedL fun r => tallyAt (barCell (peer c r)) () 1
/-- The arrivals of one kind and half at the peers. -/
abbrev oX (k : Fin 4) (h : Fin 2) (c : Dev nD) : List (Fin 31) → CellTallies nD τ sig Unit := owedL fun r => tallyAt (xCell (peer c r) k h r) () N

/-- What a device owes at launch. -/
def O₀ (c : Dev nD) : CellTallies nD τ sig Unit :=
  (((oX 3 1 c dists + oX 3 0 c dists) + oX 1 1 c dists) + oX 1 0 c dists) + oBar c dists

def L (g : GSem nD τ sig) : Finset Unit := if g.1.2 = .tc then {()} else ∅
def lvOf : Option CK → ℕ
  | some (.inl _) => 1
  | some (.inr x) => if x.1 = 1 then 2 else if x.1 = 3 then 3 else 0
  | none => 0
/-- The levels: barrier, first-phase arrivals, second-phase arrivals; everything else below. -/
def lv (g : GSem nD τ sig) (_ : Unit) : ℕ := lvOf (cls g)

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with e | e
  · exact h' g u (by omega)
  · exact h g u e
theorem above_tally {n a : ℕ} {c : Dev nD} {k : CK} (h : n < lvOf (some k)) : Above n (tallyAt (kcell (c, k)) () a) := fun g u hp => by
  rw [tallyAt_apply] at hp
  by_cases e : g = kcell (c, k) ∧ u = ()
  · rw [e.1]
    exact ⟨by rw [L_tc]; exact Finset.mem_singleton_self _, by unfold lv; rw [cls_kcell]; exact h⟩
  · rw [if_neg e] at hp; exact absurd hp (Nat.lt_irrefl 0)
theorem above_owedL {n : ℕ} {f : Fin 31 → CellTallies nD τ sig Unit} (h : ∀ r, Above n (f r)) : ∀ l, Above n (owedL f l)
  | [] => above_zero n
  | a :: l => (above_owedL h l).add (h a)
theorem above_oX {n : ℕ} {k : Fin 4} (hk : n < lvOf (some (.inr (k, 0, 0)))) (h : Fin 2) (c : Dev nD) (l : List (Fin 31)) : Above n (oX k h c l) :=
  above_owedL (fun r => above_tally (k := .inr (k, h, r)) hk) l
theorem above_O₀ (c : Dev nD) : Above 0 (O₀ c) :=
  ((((above_oX (by decide) 1 c _).add (above_oX (by decide) 0 c _)).add (above_oX (by decide) 1 c _)).add (above_oX (by decide) 0 c _)).add
    (above_owedL (fun r => above_tally (by decide)) _)

omit [FloatOps F] in
/-- A device may wait on a cell that everything it owes lies above. -/
theorem mayWait (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)
omit [FloatOps F] in
theorem mayWait_k (c : Dev nD) (k : CK) (O : CellTallies nD τ sig Unit) (hO : Above (lvOf (some k)) O) :
    (levAts L lv : sProp 𝕄) ⊢ MayWait (c : Thread nD τ) (csem k) () O :=
  mayWait c _ _ (le_of_eq (congrArg lvOf (cls_kcell c k))) O hO

end Cert.AllReduce

end
-- ==== Proof.Steps.lean ====
/- The rule of a loop, and the rule of each step of the kernel's loops at a symbolic device, half and distance. -/
module

public import proofs.«01_k».proof.Proof.Protocol

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev WP (c : Dev nD) (p : PG F) (Q : PUnit → sProp 𝕄) : sProp 𝕄 :=
  wp frame (wpE (defs₀ (F := F)) 𝒱₀ (c : Thread nD τ) none) Set.univ p Q

theorem bigSep_ins {α : Type} [DecidableEq α] {s : Finset α} {a : α} (h : a ∉ s) {Φ : α → sProp 𝕄} :
    bigSep (insert a s) Φ = iprop(Φ a ∗ bigSep s Φ) := bigSep_insert h

/-- A loop: each index's resources are turned into its results, `thr` threaded through. -/
theorem wp_rep {α : Type} [DecidableEq α] {R : sProp 𝕄} [BI.Persistent R] {c : Dev nD} {Q : PUnit → sProp 𝕄}
    (step : α → PG F → PG F) (pre post : α → sProp 𝕄) (thr : List α → sProp 𝕄)
    (hstep : ∀ a l k, iprop(R ∗ pre a ∗ thr (a :: l) ∗ ((post a ∗ thr l) -∗ WP c k Q)) ⊢ WP c (step a k) Q) (k : PG F) :
    ∀ l : List α, l.Nodup →
      iprop(R ∗ bigSep l.toFinset pre ∗ thr l ∗ ((bigSep l.toFinset post ∗ thr []) -∗ WP c k Q)) ⊢ WP c (rep l step k) Q
  | [], _ => by
    rw [List.toFinset_nil, bigSep_empty, bigSep_empty]
    iintro ⟨#HR, Hp, Ht, Hk⟩
    iapply Hk
    isplitl [Hp] <;> iassumption
  | a :: l, hl => by
    have ha : a ∉ l.toFinset := fun h => (List.nodup_cons.mp hl).1 (List.mem_toFinset.mp h)
    have ih := wp_rep step pre post thr hstep k l (List.nodup_cons.mp hl).2
    rw [List.toFinset_cons, bigSep_ins ha, bigSep_ins ha]
    show _ ⊢ WP c (step a (rep l step k)) Q
    iintro ⟨#HR, ⟨Hpa, Hpl⟩, Ht, Hk⟩
    iapply (hstep a l (rep l step k))
    isplitr; · iexact HR
    isplitl [Hpa]; · iexact Hpa
    isplitl [Ht]; · iexact Ht
    iintro ⟨Hqa, Ht⟩
    iapply ih
    isplitr; · iexact HR
    isplitl [Hpl]; · iexact Hpl
    isplitl [Ht]; · iexact Ht
    iintro ⟨Hql, Ht⟩
    iapply Hk
    isplitl [Hqa Hql]
    · isplitl [Hqa] <;> iassumption
    iexact Ht

theorem dists_nodup : dists.Nodup := by decide
theorem dists_univ : dists.toFinset = Finset.univ := by decide

/-- A loop over all distances. -/
theorem wp_dists {R : sProp 𝕄} [BI.Persistent R] {c : Dev nD} {Q : PUnit → sProp 𝕄}
    (step : Fin 31 → PG F → PG F) (pre post : Fin 31 → sProp 𝕄) (thr : List (Fin 31) → sProp 𝕄)
    (hstep : ∀ a l k, iprop(R ∗ pre a ∗ thr (a :: l) ∗ ((post a ∗ thr l) -∗ WP c k Q)) ⊢ WP c (step a k) Q) (k : PG F) :
    iprop(R ∗ bigSep Finset.univ pre ∗ thr dists ∗ ((bigSep Finset.univ post ∗ thr []) -∗ WP c k Q)) ⊢ WP c (rep dists step k) Q := by
  have h := wp_rep step pre post thr hstep k dists dists_nodup
  rw [dists_univ] at h
  exact h

variable (m : (ℓ : Loc nD τ sig) → Buf (Elt F) ℓ)

/-! ## What every device knows -/

/-- The cells' invariants under the names `K`, that their round has been reached, and the levels. -/
def env (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)

instance env_persistent (K : Dev nD × CK → ℕ) : BI.Persistent (env (F := F) m K) := by unfold env; infer_instance

variable (K : Dev nD × CK → ℕ)

theorem inv_at (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)
theorem env_inv (ck : Dev nD × CK) : env (F := F) m K ⊢ cellInv ER (Rd m) (K ck) (kcell ck) := by
  unfold env
  iintro ⟨#H, -, -⟩
  iapply (inv_at m K ck); iexact H
theorem env_reached (ck : Dev nD × CK) : env (F := F) m K ⊢ reached ER (kcell ck) 0 := by
  unfold env
  iintro ⟨-, #H, -⟩
  iapply (reached_at (F := F) ck); iexact H
theorem env_lev : env (F := F) m K ⊢ levAts L lv := by
  unfold env
  iintro ⟨-, -, #H⟩; iexact H

/-- What a device still owes, at whatever it has waited on. -/
def ow (c : Dev nD) (O : CellTallies nD τ sig Unit) : sProp 𝕄 := iprop(∃ W, owes (c : Thread nD τ) O W)

/-! ## The waits -/

/-- A wait on a transfer cell: what its end hands over, and the cell closed. -/
theorem wp_xwait (c : Dev nD) (x : KI) {s : Shape} {e : EltTy} {sp : Space} {s' : Shape} {e' : EltTy} {sp' : Space}
    {src : Memref sig .tc sp s e} {dst : Memref sig .tc sp' s' e'} {hsrc : src.view.WordExact} {hdst : dst.view.WordExact}
    (hN : dst.view.dmaCredit = N) {k : PUnit → PG F} {Q : PUnit → sProp 𝕄} (O : CellTallies nD τ sig Unit) (hO : Above (lvOf (some (.inr x))) O) :
    iprop(env m K ∗ cred (tallyAt (kcell (c, .inr x)) () N) ∗ atPos ER (kcell (c, .inr x)) 0 ∅ 0 ∗ ow c O
        ∗ ((xPay m c x ∗ semVal (kcell (c, .inr x)) 0 ∗ ow c O) -∗ WP c (k ⟨⟩) Q))
      ⊢ WP c (.op (.waitDma2 (semOf x) src dst hsrc hdst) k) Q := by
  unfold ow
  iintro ⟨#HE, Hc, Hat, ⟨%W, HO⟩, Hk⟩
  ihave #HI := (env_inv m K (c, .inr x)) $$ HE
  ihave #Hlev := (env_lev m K) $$ HE
  iapply (Rounds.wp_wait_rest_token 𝒱₀ ER (Rd m) (c : Thread nD τ) none (κ := K (c, .inr x))
      (wpE_waitDma2_eq 𝒱₀ (c : Thread nD τ) none Set.univ) (Set.mem_univ _) () (O := O) (W := W) (R := 0) (m := 0) (T := ∅)
      (by rw [Nat.zero_add, hN]; exact (expect_x m c x).symm)) $$ [Hc HO Hat]
  · isplitr; · iexact HI
    isplitl [Hc]; · rw [hN]; iexact Hc
    isplitl [HO]; · iexact HO
    isplitr; · iapply (mayWait_k c (.inr x) O hO); iexact Hlev
    iexact Hat
  iintro ⟨HO, Hat, -, Hpay⟩
  ihave Hp := (show bigSep ((Rd m).duties ((c : Thread nD τ), SemLoc.dma (semOf x)) 0 \ ∅)
      (fun d => (Rd m).payload ((c : Thread nD τ), SemLoc.dma (semOf x)) 0 d) ⊢ xPay m c x from Entails.of_eq (rest_x m c x)) $$ Hpay
  imod (Rounds.cell_close ER (Rd m) (Set.mem_univ (K (c, .inr x))) (fun h => h) (R := 0 + 1) (duties_later m (kcell (c, .inr x)))) $$ [Hat] with Hz
  · isplitr; · iexact HI
    iexact Hat
  iapply Hk
  isplitl [Hp]; · iexact Hp
  isplitl [Hz]; · iexact Hz
  iexists _; iexact HO

/-- What a wait starts from, and what it leaves. -/
def wPre (c : Dev nD) (k : Fin 4) (h : Fin 2) (r : Fin 31) : sProp 𝕄 :=
  iprop(cred (tallyAt (xCell c k h r) () N) ∗ atPos ER (xCell c k h r) 0 ∅ 0)
def wPost (c : Dev nD) (k : Fin 4) (h : Fin 2) (r : Fin 31) : sProp 𝕄 :=
  iprop(xPay m c (k, h, r) ∗ semVal (xCell c k h r) 0)

theorem wp_stRecv1 (c : Dev nD) (h : Fin 2) (r : Fin 31) (k : PG F) {Q : PUnit → sProp 𝕄} (O : CellTallies nD τ sig Unit) (hO : Above 2 O) :
    iprop(env m K ∗ wPre (F := F) c 1 h r ∗ ow c O ∗ ((wPost m c 1 h r ∗ ow c O) -∗ WP c k Q))
      ⊢ WP c (stRecv1 mS wS mG wG cc0_scratch5 h r k) Q := by
  unfold stRecv1 wPre wPost
  simp only [Prog.lift, Prog.bind_op, Prog.bind_ret]
  iintro ⟨#HE, ⟨Hc, Hat⟩, HO, Hk⟩
  iapply (wp_xwait m K c (1, h, r) (creditG r h) O hO)
  isplitr; · iexact HE
  isplitl [Hc]; · iexact Hc
  isplitl [Hat]; · iexact Hat
  isplitl [HO]; · iexact HO
  iintro ⟨Hp, Hz, HO⟩
  iapply Hk
  isplitl [Hp Hz]
  · isplitl [Hp] <;> iassumption
  iexact HO

theorem wp_stSent1 (c : Dev nD) (h : Fin 2) (r : Fin 31) (k : PG F) {Q : PUnit → sProp 𝕄} (O : CellTallies nD τ sig Unit) (hO : Above 0 O) :
    iprop(env m K ∗ wPre (F := F) c 0 h r ∗ ow c O ∗ ((wPost m c 0 h r ∗ ow c O) -∗ WP c k Q))
      ⊢ WP c (stSent1 mS wS mG wG cc0_scratch4 h r k) Q := by
  unfold stSent1 wPre wPost
  simp only [Prog.lift, Prog.bind_op, Prog.bind_ret]
  iintro ⟨#HE, ⟨Hc, Hat⟩, HO, Hk⟩
  iapply (wp_xwait m K c (0, h, r) (creditS r h) O hO)
  isplitr; · iexact HE
  isplitl [Hc]; · iexact Hc
  isplitl [Hat]; · iexact Hat
  isplitl [HO]; · iexact HO
  iintro ⟨Hp, Hz, HO⟩
  iapply Hk
  isplitl [Hp Hz]
  · isplitl [Hp] <;> iassumption
  iexact HO

theorem wp_stSent2 (c : Dev nD) (h : Fin 2) (r : Fin 31) (k : PG F) {Q : PUnit → sProp 𝕄} (O : CellTallies nD τ sig Unit) (hO : Above 0 O) :
    iprop(env m K ∗ wPre (F := F) c 2 h r ∗ ow c O ∗ ((wPost m c 2 h r ∗ ow c O) -∗ WP c k Q))
      ⊢ WP c (stSent2 mC wC mR wR cc0_scratch6 h r k) Q := by
  unfold stSent2 wPre wPost
  simp only [Prog.lift, Prog.bind_op, Prog.bind_ret]
  iintro ⟨#HE, ⟨Hc, Hat⟩, HO, Hk⟩
  iapply (wp_xwait m K c (2, h, r) (creditR h) O hO)
  isplitr; · iexact HE
  isplitl [Hc]; · iexact Hc
  isplitl [Hat]; · iexact Hat
  isplitl [HO]; · iexact HO
  iintro ⟨Hp, Hz, HO⟩
  iapply Hk
  isplitl [Hp Hz]
  · isplitl [Hp] <;> iassumption
  iexact HO

/-! ## The signals and transfers -/

/-- What a signal starts from: the duty it pays, and the slots it hands over. -/
def sigPre (c : Dev nD) (r : Fin 31) : sProp 𝕄 := iprop(dutyTok ER (barCell (peer c r)) 0 (rev r) ∗ land (F := F) c (rev r))

theorem wp_signal_to (c n : Dev nD) (r : Fin 31) (hn : n = peer c r) (O : CellTallies nD τ sig Unit) (k : PUnit → PG F) {Q : PUnit → sProp 𝕄} :
    iprop(env m K ∗ sigPre (F := F) c r ∗ ow c (O + tallyAt (barCell (peer c r)) () 1) ∗ (ow c O -∗ WP c (k ⟨⟩) Q))
      ⊢ WP c (semSignalWord n barSem 1#32 >>= k) Q := by
  subst hn
  simp only [semSignalWord, Prog.lift, Prog.bind_op, Prog.bind_ret]
  unfold sigPre ow
  iintro ⟨#HE, ⟨Ht, Hl⟩, ⟨%W, HO⟩, Hk⟩
  ihave #HI := (env_inv m K (peer c r, .inl ())) $$ HE
  ihave #HR := (env_reached m K (peer c r, .inl ())) $$ HE
  have hd : rev r ∈ (Rd m).duties (barCell (peer c r)) 0 := by rw [duties_bar]; exact Finset.mem_univ _
  have hp : (land c (rev r) : sProp 𝕄) = (Rd m).payload (barCell (peer c r)) 0 (rev r) := by rw [payload_k]; unfold pay; rw [peer_rev]
  have hp' : (land c (rev r) : sProp 𝕄) = (Rd m).payload (((peer c r : Dev nD) : Thread nD τ), SemLoc.reg barSem) 0 (rev r) := hp
  iapply (Rounds.wp_signal 𝒱₀ ER (Rd m) (c : Thread nD τ) none (dst := (peer c r : Thread nD τ)) (κ := K (peer c r, .inl ()))
      (d := rev r) hd ((amount_bar m (peer c r) (rev r)).trans (by decide)) () O rfl)
    $$ [HO Ht Hl]
  · isplitr; · iexact HI
    isplitl [HO]; · iexact HO
    isplitl [Ht]; · iexact Ht
    isplitl [Hl]
    · iapply (Entails.of_eq hp'); iexact Hl
    iexact HR
  iintro HO
  iapply Hk
  iexists W; iexact HO

/-- A first-phase transfer's start: both half slots, both duties. -/
def s1Pre (c : Dev nD) (h : Fin 2) (r : Fin 31) : sProp 𝕄 :=
  iprop(stP c r h (stageC m c) ∗ (∃ f, gaP (F := F) (peer c r) r h f) ∗ dutyTok ER (xCell c 0 h r) 0 0 ∗ dutyTok ER (xCell (peer c r) 1 h r) 0 0)

theorem wp_send1_to (c n : Dev nD) (h : Fin 2) (r : Fin 31) (hn : n = peer c r) (O : CellTallies nD τ sig Unit) (k : PUnit → PG F) {Q : PUnit → sProp 𝕄}
    {hsc : (slotM mG r h : Memref sig (Dev.tc n : Thread nD τ).2.kind .vmem S24x1536 .bf16).view.ref.isScScratch = false}
    {hsrc : (slotM mS r h).view.WordExact} {hdst : (slotM mG r h).view.WordExact}
    {hsem : DmaTarget.Typed .vmem (.dma (semAt cc0_scratch5 h r)) (.remote (Dev.tc n : Thread nD τ) (slotM mG r h) (.dma (semAt cc0_scratch4 h r)) hsc)} :
    iprop(env m K ∗ s1Pre m c h r ∗ ow c (O + tallyAt (xCell (peer c r) 1 h r) () N) ∗ ((cred (tallyAt (xCell c 0 h r) () N) ∗ ow c O) -∗ WP c (k ⟨⟩) Q))
      ⊢ WP c (.op (.enqueueDma (slotM mS r h) (.remote (Dev.tc n : Thread nD τ) (slotM mG r h) (.dma (semAt cc0_scratch4 h r)) hsc) (.dma (semAt cc0_scratch5 h r)) hsrc hdst hsem) k) Q := by
  subst hn
  unfold s1Pre ow
  iintro ⟨#HE, ⟨Hs, ⟨%fd, Hd⟩, Ht, Ht'⟩, ⟨%W, HO⟩, Hk⟩
  ihave #HI := (env_inv m K (c, .inr (0, h, r))) $$ HE
  ihave #HR := (env_reached m K (c, .inr (0, h, r))) $$ HE
  ihave #HI' := (env_inv m K (peer c r, .inr (1, h, r))) $$ HE
  ihave #HR' := (env_reached m K (peer c r, .inr (1, h, r))) $$ HE
  have hd₁ : (0 : Fin 31) ∈ (Rd m).duties (xCell c 0 h r) 0 := by rw [duties_x]; exact Finset.mem_singleton_self _
  have hd₂ : (0 : Fin 31) ∈ (Rd m).duties (xCell (peer c r) 1 h r) 0 := by rw [duties_x]; exact Finset.mem_singleton_self _
  have hp₁ : stP c r h (stageC m c) ⊢ (Rd m).payload (xCell c 0 h r) 0 0 := Entails.of_eq (payload_k m c (.inr (0, h, r)) 0).symm
  have hp₂ : gaP (peer c r) r h ((slotM mG r h).view.write (Elt F) fd ((slotM mS r h).view.read (Elt F) (stageC m c)) Finset.univ)
      ⊢ (Rd m).payload (xCell (peer c r) 1 h r) 0 0 :=
    (Entails.of_eq (pointsTo_congr fun i hi => send_gath m c r h fd hi)).trans (Entails.of_eq (payload_k m (peer c r) (.inr (1, h, r)) 0).symm)
  unfold stP gaP
  iapply (Rounds.wp_send_pointsTo 𝒱₀ ER (Rd m) (c : Thread nD τ) none (κ₁ := K (c, .inr (0, h, r))) (κ₂ := K (peer c r, .inr (1, h, r)))
    (r₁ := 0) (r₂ := 0) (d₁ := 0) (d₂ := 0) (c' := (peer c r : Thread nD τ)) (q := fullShare) (src := slotM mS r h) (dst := slotM mG r h) (fs := stageC m c) (fd := fd)
    hd₁ hd₂ () () N (creditG r h) (amount_x m c (0, h, r) 0) (amount_x m (peer c r) (1, h, r) 0) O rfl (W := W) hp₁ hp₂)
    $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

/-- A second-phase transfer's start. -/
def s2Pre (c : Dev nD) (h : Fin 2) (r : Fin 31) : sProp 𝕄 :=
  iprop(rdP c r h (redC m c) ∗ (∃ f, bcP (F := F) (peer c r) r h f) ∗ dutyTok ER (xCell c 2 h r) 0 0 ∗ dutyTok ER (xCell (peer c r) 3 h r) 0 0)

theorem wp_send2_to (c n : Dev nD) (h : Fin 2) (r : Fin 31) (hn : n = peer c r) (O : CellTallies nD τ sig Unit) (k : PUnit → PG F) {Q : PUnit → sProp 𝕄}
    {hsc : (slotM mC r h : Memref sig (Dev.tc n : Thread nD τ).2.kind .vmem S24x1536 .bf16).view.ref.isScScratch = false}
    {hsrc : (redM mR h).view.WordExact} {hdst : (slotM mC r h).view.WordExact}
    {hsem : DmaTarget.Typed .vmem (.dma (semAt cc0_scratch7 h r)) (.remote (Dev.tc n : Thread nD τ) (slotM mC r h) (.dma (semAt cc0_scratch6 h r)) hsc)} :
    iprop(env m K ∗ s2Pre m c h r ∗ ow c (O + tallyAt (xCell (peer c r) 3 h r) () N) ∗ ((cred (tallyAt (xCell c 2 h r) () N) ∗ ow c O) -∗ WP c (k ⟨⟩) Q))
      ⊢ WP c (.op (.enqueueDma (redM mR h) (.remote (Dev.tc n : Thread nD τ) (slotM mC r h) (.dma (semAt cc0_scratch6 h r)) hsc) (.dma (semAt cc0_scratch7 h r)) hsrc hdst hsem) k) Q := by
  subst hn
  unfold s2Pre ow
  iintro ⟨#HE, ⟨Hs, ⟨%fd, Hd⟩, Ht, Ht'⟩, ⟨%W, HO⟩, Hk⟩
  ihave #HI := (env_inv m K (c, .inr (2, h, r))) $$ HE
  ihave #HR := (env_reached m K (c, .inr (2, h, r))) $$ HE
  ihave #HI' := (env_inv m K (peer c r, .inr (3, h, r))) $$ HE
  ihave #HR' := (env_reached m K (peer c r, .inr (3, h, r))) $$ HE
  have hd₁ : (0 : Fin 31) ∈ (Rd m).duties (xCell c 2 h r) 0 := by rw [duties_x]; exact Finset.mem_singleton_self _
  have hd₂ : (0 : Fin 31) ∈ (Rd m).duties (xCell (peer c r) 3 h r) 0 := by rw [duties_x]; exact Finset.mem_singleton_self _
  have hp₁ : rdP c r h (redC m c) ⊢ (Rd m).payload (xCell c 2 h r) 0 0 := Entails.of_eq (payload_k m c (.inr (2, h, r)) 0).symm
  have hp₂ : bcP (peer c r) r h ((slotM mC r h).view.write (Elt F) fd ((redM mR h).view.read (Elt F) (redC m c)) Finset.univ)
      ⊢ (Rd m).payload (xCell (peer c r) 3 h r) 0 0 :=
    (Entails.of_eq (pointsTo_congr fun i hi => send_bcast m c r h fd hi)).trans (Entails.of_eq (payload_k m (peer c r) (.inr (3, h, r)) 0).symm)
  unfold rdP bcP
  iapply (Rounds.wp_send_pointsTo 𝒱₀ ER (Rd m) (c : Thread nD τ) none (κ₁ := K (c, .inr (2, h, r))) (κ₂ := K (peer c r, .inr (3, h, r)))
    (r₁ := 0) (r₂ := 0) (d₁ := 0) (d₂ := 0) (c' := (peer c r : Thread nD τ)) (q := Ring.sharesN 31 fullShare r) (src := redM mR h) (dst := slotM mC r h) (fs := redC m c) (fd := fd)
    hd₁ hd₂ () () N (creditC r h) (amount_x m c (2, h, r) 0) (amount_x m (peer c r) (3, h, r) 0) O rfl (W := W) hp₁ hp₂)
    $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

end Cert.AllReduce

end
-- ==== Proof.Stages.lean ====
/- The kernel's loops, each from what its 31 iterations start from to what they leave. -/
module

public import proofs.«01_k».proof.Proof.Steps

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The buffers in parts -/

/-- A part of a scratch buffer of 32 slots. -/
def sP (c : Dev nD) (S : Finset S32x48x1536.Idx) (f : Vec F S32x48x1536 .bf16) : sProp 𝕄 := iprop(((c : Thread nD τ).loc cc0_scratch0) ↦[S]{fullShare} f)
def gP (c : Dev nD) (S : Finset S32x48x1536.Idx) (f : Vec F S32x48x1536 .bf16) : sProp 𝕄 := iprop(((c : Thread nD τ).loc cc0_scratch1) ↦[S]{fullShare} f)
def cP (c : Dev nD) (S : Finset S32x48x1536.Idx) (f : Vec F S32x48x1536 .bf16) : sProp 𝕄 := iprop(((c : Thread nD τ).loc cc0_scratch2) ↦[S]{fullShare} f)
def rP (c : Dev nD) (S : Finset S48x1536.Idx) (f : Vec F S48x1536 .bf16) : sProp 𝕄 := iprop(((c : Thread nD τ).loc cc0_scratch3) ↦[S]{fullShare} f)
/-- The result's buffer. -/
def oP (c : Dev nD) (f : Vec F S1536x1536 .f32) : sProp 𝕄 := iprop(((c : Thread nD τ).loc cc0_stg2_0) ↦{fullShare} f)

theorem stP_eq (c : Dev nD) (r : Fin 31) (h : Fin 2) (f : Vec F S32x48x1536 .bf16) : (stP c r h f : sProp 𝕄) = sP c (sset r.succ h) f := by
  unfold stP sP; rw [slotS_set]
theorem gaP_eq (c : Dev nD) (r : Fin 31) (h : Fin 2) (f : Vec F S32x48x1536 .bf16) : (gaP c r h f : sProp 𝕄) = gP c (sset r.succ h) f := by
  unfold gaP gP; rw [slotG_set]
theorem bcP_eq (c : Dev nD) (r : Fin 31) (h : Fin 2) (f : Vec F S32x48x1536 .bf16) : (bcP c r h f : sProp 𝕄) = cP c (sset r.succ h) f := by
  unfold bcP cP; rw [slotC_set]
theorem rdP_all (c : Dev nD) (h : Fin 2) (f : Vec F S48x1536 .bf16) :
    (rP c (rset h) f : sProp 𝕄) = bigSep Finset.univ fun r => rdP c r h f := by
  unfold rP rdP
  rw [redM_set, bigSep_univ_eq_bigSepL (List.finRange 31) (by decide) (List.nodup_finRange 31)]
  have e := Ring.pointsTo_nths (ℓ := (c : Thread nD τ).loc cc0_scratch3) (I := rset h) (Ix := Unit) (Name := ℕ) (U := UU) (Lvl := ℕ) (show Buf (Elt F) ((c : Thread nD τ).loc cc0_scratch3) from f) 30 fullShare
  exact equiv_iff.mp ⟨e.1, e.2⟩

theorem halves (s : Fin 32) : Disjoint (sset s 0) (sset s 1) := sset_disjoint s s 0 1 (by simp)

theorem sP_union (c : Dev nD) (s : Fin 32) (f : Vec F S32x48x1536 .bf16) :
    (sP c (sset s 0 ∪ sset s 1) f : sProp 𝕄) = iprop(sP c (sset s 0) f ∗ sP c (sset s 1) f) := by
  have e := pointsTo_union (ℓ := (c : Thread nD τ).loc cc0_scratch0) (q := fullShare) (Ix := Unit) (Name := ℕ) (U := UU) (Lvl := ℕ)
    (f := show Buf (Elt F) ((c : Thread nD τ).loc cc0_scratch0) from f) (halves s)
  exact equiv_iff.mp ⟨e.1, e.2⟩
theorem gP_union (c : Dev nD) (s : Fin 32) (f : Vec F S32x48x1536 .bf16) :
    (gP c (sset s 0 ∪ sset s 1) f : sProp 𝕄) = iprop(gP c (sset s 0) f ∗ gP c (sset s 1) f) := by
  have e := pointsTo_union (ℓ := (c : Thread nD τ).loc cc0_scratch1) (q := fullShare) (Ix := Unit) (Name := ℕ) (U := UU) (Lvl := ℕ)
    (f := show Buf (Elt F) ((c : Thread nD τ).loc cc0_scratch1) from f) (halves s)
  exact equiv_iff.mp ⟨e.1, e.2⟩

omit [FloatOps F] in
/-- Slot 0 apart, the other slots by distance. -/
theorem bigSep_slots (Φ : Fin 32 → sProp 𝕄) : bigSep Finset.univ Φ = iprop(Φ 0 ∗ bigSep Finset.univ fun r : Fin 31 => Φ r.succ) := by
  have e : Finset.univ.erase (0 : Fin 32) = Finset.univ.map (Fin.succEmb 31) := by decide
  rw [bigSep_univ_at Φ 0, e, bigSep_map]
  rfl

theorem gP_half (c : Dev nD) (h : Fin 2) (f : Vec F S32x48x1536 .bf16) :
    (gP c (hset h) f : sProp 𝕄) = iprop(gP c (sset 0 h) f ∗ bigSep Finset.univ fun r => gaP c r h f) := by
  have e : (gP c (hset h) f : sProp 𝕄) = bigSep Finset.univ fun s => gP c (sset s h) f := by
    have e0 := pointsTo_biUnion (ℓ := (c : Thread nD τ).loc cc0_scratch1) (q := fullShare) (Ix := Unit) (Name := ℕ) (U := UU) (Lvl := ℕ)
      (f := show Buf (Elt F) ((c : Thread nD τ).loc cc0_scratch1) from f) Finset.univ (fun s : Fin 32 => sset s h)
      fun s _ s' _ hne => sset_disjoint s s' h h fun e => hne (congrArg Prod.fst e)
    rw [hset_eq h] at e0; exact e0
  rw [e, bigSep_slots]
  rw [show (fun r => gaP (F := F) c r h f) = fun r => gP c (sset r.succ h) f from funext fun r => gaP_eq c r h f]

/-! ## The signals -/

theorem wp_signals (c : Dev nD) (B : CellTallies nD τ sig Unit) (k : PG F) {Q : PUnit → sProp 𝕄} :
    iprop(env m K ∗ (bigSep Finset.univ fun r => sigPre (F := F) c r) ∗ ow c (B + oBar c dists) ∗ (ow c B -∗ WP c k Q))
      ⊢ WP c (rep dists (stSig c) k) Q := by
  iintro ⟨#HE, Hp, HO, Hk⟩
  iapply (wp_dists (R := env m K) (c := c) (Q := Q) (stSig c) (fun r => sigPre (F := F) c r) (fun _ => iprop(emp)) (fun l => ow c (B + oBar c l)) (by
    intro a l k
    unfold stSig
    iintro ⟨#HE, Hp, HO, Hk⟩
    iapply (wp_signal_to m K c (peerW c a) a (peerW_eq c a) (B + oBar c l) (fun _ => k))
    isplitr; · iexact HE
    isplitl [Hp]; · iexact Hp
    isplitl [HO]
    · rw [show B + oBar c (a :: l) = B + oBar c l + tallyAt (barCell (peer c a)) () 1 from (add_assoc _ _ _).symm]; iexact HO
    iintro HO
    iapply Hk
    isplitr; · iempintro
    iexact HO) k)
  isplitr; · iexact HE
  isplitl [Hp]; · iexact Hp
  isplitl [HO]; · iexact HO
  iintro ⟨-, HO⟩
  iapply Hk
  rw [show B + oBar c [] = B from add_zero B]; iexact HO

/-! ## The staging -/

def stgPre (c : Dev nD) (r : Fin 31) : sProp 𝕄 := iprop(∃ f, stP (F := F) c r 0 f ∗ stP (F := F) c r 1 f)
def stgPost (c : Dev nD) (r : Fin 31) : sProp 𝕄 := iprop(stP c r 0 (stageC m c) ∗ stP c r 1 (stageC m c))

theorem acc48 (r : Fin 31) : (mS.access (Rect.unit (s := S32x48x1536) ![1 + r.val, 0, 0] S1x48x1536.size (inb48 r))).set = sset r.succ 0 ∪ sset r.succ 1 :=
  (View.set_slice_whole _ _).trans (rect48 r)
theorem acc48' (r : Fin 31) : (mS.access (Rect.unit (s := S32x48x1536) ![1 + r.val, 0, 0] S1x48x1536.size (inb48 r))).setOn Finset.univ = sset r.succ 0 ∪ sset r.succ 1 :=
  (View.setOn_univ _).trans (acc48 r)

theorem wp_stStage (c : Dev nD) (r : Fin 31) (k : PG F) {Q : PUnit → sProp 𝕄} :
    iprop(stgPre (F := F) c r ∗ oP c (prodC m c) ∗ ((stgPost m c r ∗ oP c (prodC m c)) -∗ WP c k Q)) ⊢ WP c (stStage mO mS wS c r k) Q := by
  unfold stStage stgPre stgPost
  simp only [Prog.lift, Prog.bind_op, Prog.bind_ret, stP_eq, ← sP_union]
  unfold oP sP
  iintro ⟨⟨%f, Hs⟩, Ho, Hk⟩
  iapply (wp_load 𝒱₀ (c : Thread nD τ) none Set.univ (m := mO) (Finset.subset_univ _)) $$ Ho; iintro Ho
  rw [read_chunk1]
  iapply (wp_load_rect 𝒱₀ (c : Thread nD τ) none Set.univ (m := mS) (acc48 r).subset) $$ Hs; iintro Hs
  iapply (wp_store 𝒱₀ (c : Thread nD τ) none Set.univ (m := mS) (r := Rect.unit (s := S32x48x1536) ![1 + r.val, 0, 0] S1x48x1536.size (inb48 r)) (Mk := Finset.univ) (acc48' r).subset) $$ Hs; iintro Hs
  iapply Hk
  isplitl [Hs]
  · ihave Hs := (show _ ⊢ (sP c (sset r.succ 0 ∪ sset r.succ 1) (stageC m c) : sProp 𝕄) from Entails.of_eq (pointsTo_congr fun i hi => write_stage m c r f hi)) $$ Hs
    unfold sP; iexact Hs
  iexact Ho

theorem wp_stages (c : Dev nD) (k : PG F) {Q : PUnit → sProp 𝕄} :
    iprop((bigSep Finset.univ fun r => stgPre (F := F) c r) ∗ oP c (prodC m c)
        ∗ (((bigSep Finset.univ fun r => stgPost m c r) ∗ oP c (prodC m c)) -∗ WP c k Q))
      ⊢ WP c (rep dists (stStage mO mS wS c) k) Q := by
  iintro ⟨Hp, Ho, Hk⟩
  iapply (wp_dists (R := iprop(emp)) (c := c) (Q := Q) (stStage mO mS wS c) (fun r => stgPre (F := F) c r) (fun r => stgPost m c r) (fun _ => oP c (prodC m c)) (by
    intro a l k
    iintro ⟨-, Hp, Ho, Hk⟩
    iapply (wp_stStage m c a k)
    isplitl [Hp]; · iexact Hp
    isplitl [Ho]; · iexact Ho
    iexact Hk) k)
  isplitr; · iempintro
  isplitl [Hp]; · iexact Hp
  isplitl [Ho]; · iexact Ho
  iexact Hk

/-! ## The transfers -/

theorem wp_sends1 (c : Dev nD) (h : Fin 2) (B : CellTallies nD τ sig Unit) (k : PG F) {Q : PUnit → sProp 𝕄} :
    iprop(env m K ∗ (bigSep Finset.univ fun r => s1Pre m c h r) ∗ ow c (B + oX 1 h c dists)
        ∗ (((bigSep Finset.univ fun r => cred (tallyAt (xCell c 0 h r) () N)) ∗ ow c B) -∗ WP c k Q))
      ⊢ WP c (rep dists (stSend1 mS wS mG wG cc0_scratch4 cc0_scratch5 c h) k) Q := by
  iintro ⟨#HE, Hp, HO, Hk⟩
  iapply (wp_dists (R := env m K) (c := c) (Q := Q) (stSend1 mS wS mG wG cc0_scratch4 cc0_scratch5 c h) (fun r => s1Pre m c h r)
    (fun r => cred (tallyAt (xCell c 0 h r) () N)) (fun l => ow c (B + oX 1 h c l)) (by
    intro a l k
    unfold stSend1
    simp only [Prog.lift, Prog.bind_op, Prog.bind_ret]
    iintro ⟨#HE, Hp, HO, Hk⟩
    iapply (wp_send1_to m K c (peerW c a) h a (peerW_eq c a) (B + oX 1 h c l) (fun _ => k))
    isplitr; · iexact HE
    isplitl [Hp]; · iexact Hp
    isplitl [HO]
    · rw [show B + oX 1 h c (a :: l) = B + oX 1 h c l + tallyAt (xCell (peer c a) 1 h a) () N from (add_assoc _ _ _).symm]; iexact HO
    iexact Hk) k)
  isplitr; · iexact HE
  isplitl [Hp]; · iexact Hp
  isplitl [HO]; · iexact HO
  rw [show B + oX 1 h c [] = B from add_zero B]; iexact Hk

theorem wp_sends2 (c : Dev nD) (h : Fin 2) (B : CellTallies nD τ sig Unit) (k : PG F) {Q : PUnit → sProp 𝕄} :
    iprop(env m K ∗ (bigSep Finset.univ fun r => s2Pre m c h r) ∗ ow c (B + oX 3 h c dists)
        ∗ (((bigSep Finset.univ fun r => cred (tallyAt (xCell c 2 h r) () N)) ∗ ow c B) -∗ WP c k Q))
      ⊢ WP c (rep dists (stSend2 mC wC mR wR cc0_scratch6 cc0_scratch7 c h) k) Q := by
  iintro ⟨#HE, Hp, HO, Hk⟩
  iapply (wp_dists (R := env m K) (c := c) (Q := Q) (stSend2 mC wC mR wR cc0_scratch6 cc0_scratch7 c h) (fun r => s2Pre m c h r)
    (fun r => cred (tallyAt (xCell c 2 h r) () N)) (fun l => ow c (B + oX 3 h c l)) (by
    intro a l k
    unfold stSend2
    simp only [Prog.lift, Prog.bind_op, Prog.bind_ret]
    iintro ⟨#HE, Hp, HO, Hk⟩
    iapply (wp_send2_to m K c (peerW c a) h a (peerW_eq c a) (B + oX 3 h c l) (fun _ => k))
    isplitr; · iexact HE
    isplitl [Hp]; · iexact Hp
    isplitl [HO]
    · rw [show B + oX 3 h c (a :: l) = B + oX 3 h c l + tallyAt (xCell (peer c a) 3 h a) () N from (add_assoc _ _ _).symm]; iexact HO
    iexact Hk) k)
  isplitr; · iexact HE
  isplitl [Hp]; · iexact Hp
  isplitl [HO]; · iexact HO
  rw [show B + oX 3 h c [] = B from add_zero B]; iexact Hk

/-! ## The waits -/

theorem wp_recvs1 (c : Dev nD) (h : Fin 2) (B : CellTallies nD τ sig Unit) (hB : Above 2 B) (k : PG F) {Q : PUnit → sProp 𝕄} :
    iprop(env m K ∗ (bigSep Finset.univ fun r => wPre (F := F) c 1 h r) ∗ ow c B ∗ (((bigSep Finset.univ fun r => wPost m c 1 h r) ∗ ow c B) -∗ WP c k Q))
      ⊢ WP c (rep dists (stRecv1 mS wS mG wG cc0_scratch5 h) k) Q :=
  wp_dists (R := env m K) (c := c) (Q := Q) (stRecv1 mS wS mG wG cc0_scratch5 h) (fun r => wPre (F := F) c 1 h r) (fun r => wPost m c 1 h r) (fun _ => ow c B)
    (fun a _ k => wp_stRecv1 m K c h a k B hB) k
theorem wp_sents1 (c : Dev nD) (h : Fin 2) (B : CellTallies nD τ sig Unit) (hB : Above 0 B) (k : PG F) {Q : PUnit → sProp 𝕄} :
    iprop(env m K ∗ (bigSep Finset.univ fun r => wPre (F := F) c 0 h r) ∗ ow c B ∗ (((bigSep Finset.univ fun r => wPost m c 0 h r) ∗ ow c B) -∗ WP c k Q))
      ⊢ WP c (rep dists (stSent1 mS wS mG wG cc0_scratch4 h) k) Q :=
  wp_dists (R := env m K) (c := c) (Q := Q) (stSent1 mS wS mG wG cc0_scratch4 h) (fun r => wPre (F := F) c 0 h r) (fun r => wPost m c 0 h r) (fun _ => ow c B)
    (fun a _ k => wp_stSent1 m K c h a k B hB) k
theorem wp_sents2 (c : Dev nD) (h : Fin 2) (B : CellTallies nD τ sig Unit) (hB : Above 0 B) (k : PG F) {Q : PUnit → sProp 𝕄} :
    iprop(env m K ∗ (bigSep Finset.univ fun r => wPre (F := F) c 2 h r) ∗ ow c B ∗ (((bigSep Finset.univ fun r => wPost m c 2 h r) ∗ ow c B) -∗ WP c k Q))
      ⊢ WP c (rep dists (stSent2 mC wC mR wR cc0_scratch6 h) k) Q :=
  wp_dists (R := env m K) (c := c) (Q := Q) (stSent2 mC wC mR wR cc0_scratch6 h) (fun r => wPre (F := F) c 2 h r) (fun r => wPost m c 2 h r) (fun _ => ow c B)
    (fun a _ k => wp_stSent2 m K c h a k B hB) k

/-! ## The result's stores -/

/-- The result's buffer, at its final contents wherever nothing is pending. -/
def oG (c : Dev nD) (P : S1536x1536.Idx → Prop) : sProp 𝕄 := iprop(∃ f, ⌜∀ i, ¬ P i → f i = outC m c i⌝ ∗ oP c f)

theorem oG_mono (c : Dev nD) {P P' : S1536x1536.Idx → Prop} (h : ∀ i, P i → P' i) : oG m c P ⊢ oG m c P' := by
  unfold oG
  iintro ⟨%f, %hf, Ho⟩
  iexists f
  isplitr; · ipureintro; exact fun i hi => hf i fun hp => hi (h i hp)
  iexact Ho

theorem acc24 (r : Fin 31) (h : Fin 2) :
    (mC.access (Rect.unit (s := S32x48x1536) ![1 + r.val, 24 * h.val, 0] S1x24x1536.size (inb24 r h))).set = sset r.succ h :=
  (View.set_slice_whole _ _).trans (rect24 r h)

theorem keep_own (c : Dev nD) (h : Fin 2) (f : Vec F S1536x1536 .f32) (w : Vec F S24x1536 .f32) {i : S1536x1536.Idx} (hi : i ∉ oset c h) :
    (mO.access (Rect.unit (s := S1536x1536) (k0_off3 c (BitVec.ofNat 32 (24 * h.val))) S24x1536.size (k0_off3_inb c h))).write (Elt F) f w Finset.univ i = f i :=
  View.write_of_not_mem _ _ _ (by rw [View.setOn_univ, View.set_slice_whole]; rw [← rectOwn c h] at hi; exact hi)
theorem keep_other (c : Dev nD) (r : Fin 31) (h : Fin 2) (f : Vec F S1536x1536 .f32) (w : Vec F S24x1536 .f32) {i : S1536x1536.Idx}
    (hi : i ∉ oset (backBy c r.succ) h) :
    (mO.access (Rect.unit (s := S1536x1536) (k0_off4 c (BitVec.ofNat 32 (1 + r.val)) (BitVec.ofNat 32 (24 * h.val))) S24x1536.size (k0_off4_inb c r h))).write
      (Elt F) f w Finset.univ i = f i :=
  View.write_of_not_mem _ _ _ (by rw [View.setOn_univ, View.set_slice_whole]; rw [← rectOther c r h] at hi; exact hi)

theorem wp_stRecv2 (c : Dev nD) (h : Fin 2) (r : Fin 31) (k : PG F) {Q : PUnit → sProp 𝕄} (P P' : S1536x1536.Idx → Prop)
    (hP : ∀ i, P i → i ∉ oset (backBy c r.succ) h → P' i) :
    iprop(env m K ∗ wPre (F := F) c 3 h r ∗ (oG m c P ∗ ow c 0) ∗ ((wPost m c 3 h r ∗ (oG m c P' ∗ ow c 0)) -∗ WP c k Q))
      ⊢ WP c (stRecv2 mO mC wC mR wR cc0_scratch7 c h r k) Q := by
  unfold stRecv2 wPre wPost oG
  simp only [Prog.lift, Prog.bind_op, Prog.bind_ret]
  iintro ⟨#HE, ⟨Hc, Hat⟩, ⟨⟨%f, %hf, Ho⟩, HO⟩, Hk⟩
  iapply (wp_xwait m K c (3, h, r) (creditC r h) 0 (above_zero _))
  isplitr; · iexact HE
  isplitl [Hc]; · iexact Hc
  isplitl [Hat]; · iexact Hat
  isplitl [HO]; · iexact HO
  iintro ⟨Hp, Hz, HO⟩
  ihave Hp := (show xPay m c (3, h, r) ⊢ cP c (sset r.succ h) (bcastC m c) from Entails.of_eq (bcP_eq c r h (bcastC m c))) $$ Hp
  unfold cP oP
  iapply (wp_load_rect 𝒱₀ (c : Thread nD τ) none Set.univ (m := mC) (acc24 r h).subset) $$ Hp; iintro Hp
  rw [read_halfOf]
  iapply (wp_load 𝒱₀ (c : Thread nD τ) none Set.univ (m := mO) (Finset.subset_univ _)) $$ Ho; iintro Ho
  iapply (wp_store 𝒱₀ (c : Thread nD τ) none Set.univ (m := mO) (r := Rect.unit (s := S1536x1536) (k0_off4 c (BitVec.ofNat 32 (1 + r.val)) (BitVec.ofNat 32 (24 * h.val))) S24x1536.size (k0_off4_inb c r h)) (Mk := Finset.univ) (Finset.subset_univ _)) $$ Ho; iintro Ho
  iapply Hk
  isplitl [Hp Hz]
  · isplitl [Hp]
    · iapply (show cP c (sset r.succ h) (bcastC m c) ⊢ xPay m c (3, h, r) from Entails.of_eq (bcP_eq c r h (bcastC m c)).symm)
      unfold cP; iexact Hp
    iexact Hz
  isplitl [Ho]
  · iexists _
    isplitr
    rotate_left
    · iexact Ho
    · ipureintro
      intro i hi
      by_cases hm : i ∈ oset (backBy c r.succ) h
      · exact write_outOther m c r h f hm
      · refine (keep_other c r h f _ hm).trans ?_
        exact hf i fun hp => hi (hP i hp hm)
  iexact HO

/-- What is pending while the second phase's half `h` is received: `P`, and the chunks still to come. -/
def pend (c : Dev nD) (h : Fin 2) (P : S1536x1536.Idx → Prop) (l : List (Fin 31)) (i : S1536x1536.Idx) : Prop :=
  P i ∨ ∃ r ∈ l, i ∈ oset (backBy c r.succ) h

theorem wp_recvs2 (c : Dev nD) (h : Fin 2) (P : S1536x1536.Idx → Prop) (k : PG F) {Q : PUnit → sProp 𝕄} :
    iprop(env m K ∗ (bigSep Finset.univ fun r => wPre (F := F) c 3 h r) ∗ (oG m c (pend c h P dists) ∗ ow c 0)
        ∗ (((bigSep Finset.univ fun r => wPost m c 3 h r) ∗ (oG m c (pend c h P []) ∗ ow c 0)) -∗ WP c k Q))
      ⊢ WP c (rep dists (stRecv2 mO mC wC mR wR cc0_scratch7 c h) k) Q :=
  wp_dists (R := env m K) (c := c) (Q := Q) (stRecv2 mO mC wC mR wR cc0_scratch7 c h) (fun r => wPre (F := F) c 3 h r) (fun r => wPost m c 3 h r)
    (fun l => iprop(oG m c (pend c h P l) ∗ ow c 0))
    (fun a l k => wp_stRecv2 m K c h a k _ _ fun i hi hn => by
      rcases hi with hi | ⟨r, hr, hi⟩
      · exact Or.inl hi
      · rcases List.mem_cons.mp hr with rfl | hr
        · exact absurd hi hn
        · exact Or.inr ⟨r, hr, hi⟩) k

/-! ## A half of the first phase's end -/

/-- What the second phase's transfers start from, besides the reduced half. -/
def s2Tok (c : Dev nD) (h : Fin 2) (r : Fin 31) : sProp 𝕄 :=
  iprop((∃ f, bcP (F := F) (peer c r) r h f) ∗ dutyTok ER (xCell c 2 h r) 0 0 ∗ dutyTok ER (xCell (peer c r) 3 h r) 0 0)

theorem accAll (h : Fin 2) : (mG.access (Rect.unit (s := S32x48x1536) ![0, 24 * h.val, 0] S32x24x1536.size (inbAll h))).set = hset h :=
  (View.set_slice_whole _ _).trans (rectAll h)
theorem accRed (h : Fin 2) : (mR.access (Rect.unit (s := S48x1536) ![24 * h.val, 0] S24x1536.size (inbRed h))).set = rset h :=
  (View.set_slice_whole _ _).trans (rectRed h)
theorem accRed' (h : Fin 2) : (mR.access (Rect.unit (s := S48x1536) ![24 * h.val, 0] S24x1536.size (inbRed h))).setOn Finset.univ = rset h :=
  (View.setOn_univ _).trans (accRed h)

theorem wp_stHalf (c : Dev nD) (h : Fin 2) (B : CellTallies nD τ sig Unit) (hB : Above 2 B) (P : S1536x1536.Idx → Prop) (k : PG F) {Q : PUnit → sProp 𝕄} :
    iprop(env m K ∗ (bigSep Finset.univ fun r => wPre (F := F) c 1 h r) ∗ (bigSep Finset.univ fun r => s2Tok (F := F) c h r)
        ∗ gP c (sset 0 h) (gathC m c) ∗ (∃ f, rP c (rset h) f) ∗ oG m c P ∗ ow c (B + oX 3 h c dists)
        ∗ (((bigSep Finset.univ fun r => semVal (xCell c 1 h r) 0) ∗ gP c (hset h) (gathC m c)
            ∗ (bigSep Finset.univ fun r => cred (tallyAt (xCell c 2 h r) () N)) ∗ oG m c (fun i => P i ∧ i ∉ oset c h) ∗ ow c B) -∗ WP c k Q))
      ⊢ WP c (stHalf mO mS wS mG wG mC wC mR wR cc0_scratch5 cc0_scratch6 cc0_scratch7 c h k) Q := by
  unfold stHalf
  simp only [Prog.lift, Prog.bind_op, Prog.bind_ret]
  iintro ⟨#HE, Hw, Ht, Hg, ⟨%f, Hr⟩, Ho, HO, Hk⟩
  iapply (wp_recvs1 m K c h (B + oX 3 h c dists) (hB.add (above_oX (by decide) h c _)))
  isplitr; · iexact HE
  isplitl [Hw]; · iexact Hw
  isplitl [HO]; · iexact HO
  iintro ⟨Hw, HO⟩
  ihave Hw := (show (bigSep Finset.univ fun r => wPost m c 1 h r)
      ⊢ iprop((bigSep Finset.univ fun r => gaP c r h (gathC m c)) ∗ bigSep Finset.univ fun r => semVal (xCell c 1 h r) 0) from
    Entails.of_eq (bigSep_sep' Finset.univ (fun r => gaP c r h (gathC m c)) (fun r => (semVal (xCell c 1 h r) 0 : sProp 𝕄)))) $$ Hw
  icases Hw with ⟨Hw, Hz⟩
  ihave Hg := (Entails.of_eq (gP_half c h (gathC m c)).symm) $$ [Hg Hw]
  · isplitl [Hg] <;> iassumption
  unfold gP rP oG oP
  icases Ho with ⟨%fo, %hfo, Ho⟩
  iapply (wp_load_rect 𝒱₀ (c : Thread nD τ) none Set.univ (m := mG) (accAll h).subset) $$ Hg; iintro Hg
  rw [read_halfAll]
  iapply (wp_load_rect 𝒱₀ (c : Thread nD τ) none Set.univ (m := mR) (accRed h).subset) $$ Hr; iintro Hr
  iapply (wp_store 𝒱₀ (c : Thread nD τ) none Set.univ (m := mR) (r := Rect.unit (s := S48x1536) ![24 * h.val, 0] S24x1536.size (inbRed h)) (Mk := Finset.univ) (accRed' h).subset) $$ Hr; iintro Hr
  ihave Hr := (show _ ⊢ (rP c (rset h) (redC m c) : sProp 𝕄) from Entails.of_eq (pointsTo_congr fun i hi => write_red m c h f hi)) $$ Hr
  iapply (wp_load 𝒱₀ (c : Thread nD τ) none Set.univ (m := mO) (Finset.subset_univ _)) $$ Ho; iintro Ho
  iapply (wp_store 𝒱₀ (c : Thread nD τ) none Set.univ (m := mO) (r := Rect.unit (s := S1536x1536) (k0_off3 c (BitVec.ofNat 32 (24 * h.val))) S24x1536.size (k0_off3_inb c h)) (Mk := Finset.univ) (Finset.subset_univ _)) $$ Ho; iintro Ho
  iapply (wp_sends2 m K c h B k)
  isplitr; · iexact HE
  isplitl [Hr Ht]
  · iapply (show iprop(rP c (rset h) (redC m c) ∗ bigSep Finset.univ fun r => s2Tok (F := F) c h r) ⊢ bigSep Finset.univ fun r => s2Pre m c h r from by
      rw [rdP_all, ← bigSep_sep']; exact BI.Entails.refl _)
    isplitl [Hr] <;> iassumption
  isplitl [HO]; · iexact HO
  iintro ⟨Hc, HO⟩
  iapply Hk
  isplitl [Hz]; · iexact Hz
  isplitl [Hg]; · iexact Hg
  isplitl [Hc]; · iexact Hc
  isplitl [Ho]
  · iexists _
    isplitr
    rotate_left
    · iexact Ho
    · ipureintro
      intro i hi
      by_cases hm : i ∈ oset c h
      · exact write_outOwn m c h fo hm
      · refine (keep_own c h fo _ hm).trans ?_
        exact hfo i fun hp => hi ⟨hp, hm⟩
  iexact HO

end Cert.AllReduce

end
-- ==== Proof.Body.lean ====
/- The kernel's body on one device: from what the launch hands it to its result and every counter at zero. -/
module

public import proofs.«01_k».proof.Proof.Stages

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers of unknown contents, in parts -/

/-- Parts of a buffer, that can be put together and taken apart. -/
structure Parts {X : Type} [DecidableEq X] (E : Finset X → sProp 𝕄) : Prop where
  none : E ∅ = iprop(emp)
  union : ∀ S S', Disjoint S S' → E (S ∪ S') = iprop(E S ∗ E S')

omit [FloatOps F] in
theorem Parts.biUnion {X : Type} [DecidableEq X] {E : Finset X → sProp 𝕄} (hE : Parts E) {T : Type} (S : Finset T) (K : T → Finset X)
    (h : ∀ t ∈ S, ∀ t' ∈ S, t ≠ t' → Disjoint (K t) (K t')) : E (S.biUnion K) = bigSep S fun t => E (K t) := by
  classical
  induction S using Finset.induction_on with
  | empty => rw [Finset.biUnion_empty, hE.none, bigSep_empty]; rfl
  | insert t S ht ih =>
    have hd : Disjoint (K t) (S.biUnion K) := (Finset.disjoint_biUnion_right _ _ _).mpr fun t' ht' =>
      h t (Finset.mem_insert_self _ _) t' (Finset.mem_insert_of_mem ht') fun e => ht (e ▸ ht')
    rw [Finset.biUnion_insert, bigSep_insert ht, hE.union _ _ hd,
      ih fun a ha b hb => h a (Finset.mem_insert_of_mem ha) b (Finset.mem_insert_of_mem hb)]
    rfl

/-- A part of a buffer, its contents unknown. -/
def someP (ℓ : Loc nD τ sig) (S : Finset (Idx ℓ)) : sProp 𝕄 := iprop(∃ f : Buf (Elt F) ℓ, ℓ ↦[S]{fullShare} f)

omit [FloatOps F] in
theorem someP_none (ℓ : Loc nD τ sig) (f₀ : Buf (Elt F) ℓ) : someP (F := F) ℓ ∅ = iprop(emp) := by
  unfold someP
  have h₁ : iprop(∃ f : Buf (Elt F) ℓ, ℓ ↦[∅]{fullShare} f) ⊢ (iprop(emp) : sProp 𝕄) := by
    iintro ⟨%f, H⟩
    iapply (Entails.of_eq (pointsTo_empty (ℓ := ℓ) (f := f))); iexact H
  have h₂ : (iprop(emp) : sProp 𝕄) ⊢ iprop(∃ f : Buf (Elt F) ℓ, ℓ ↦[∅]{fullShare} f) := by
    iintro H; iexists f₀
    iapply (Entails.of_eq (pointsTo_empty (ℓ := ℓ) (f := f₀)).symm); iexact H
  exact equiv_iff.mp ⟨h₁, h₂⟩

omit [FloatOps F] in
theorem someP_union (ℓ : Loc nD τ sig) (S S' : Finset (Idx ℓ)) (h : Disjoint S S') :
    someP (F := F) ℓ (S ∪ S') = iprop(someP ℓ S ∗ someP ℓ S') := by
  unfold someP
  have h₁ : iprop(∃ f : Buf (Elt F) ℓ, ℓ ↦[S ∪ S']{fullShare} f)
      ⊢ (iprop((∃ f : Buf (Elt F) ℓ, ℓ ↦[S]{fullShare} f) ∗ (∃ f : Buf (Elt F) ℓ, ℓ ↦[S']{fullShare} f)) : sProp 𝕄) := by
    iintro ⟨%f, H⟩
    ihave H := (pointsTo_union h).1 $$ H
    icases H with ⟨H, H'⟩
    isplitl [H]
    · iexists f; iexact H
    · iexists f; iexact H'
  have h₂ : (iprop((∃ f : Buf (Elt F) ℓ, ℓ ↦[S]{fullShare} f) ∗ (∃ f : Buf (Elt F) ℓ, ℓ ↦[S']{fullShare} f)) : sProp 𝕄)
      ⊢ iprop(∃ f : Buf (Elt F) ℓ, ℓ ↦[S ∪ S']{fullShare} f) := by
    iintro ⟨⟨%f, H⟩, ⟨%g, H'⟩⟩
    iexists _
    iapply (pointsTo_join h)
    isplitl [H] <;> iassumption
  exact equiv_iff.mp ⟨h₁, h₂⟩

omit [FloatOps F] in
theorem someP_parts (ℓ : Loc nD τ sig) (f₀ : Buf (Elt F) ℓ) : Parts (someP (F := F) ℓ) := ⟨someP_none ℓ f₀, someP_union ℓ⟩

variable (m : (ℓ : Loc nD τ sig) → Buf (Elt F) ℓ) (K : Dev nD × CK → ℕ)

def sE (c : Dev nD) (S : Finset S32x48x1536.Idx) : sProp 𝕄 := iprop(∃ f, sP (F := F) c S f)
def gE (c : Dev nD) (S : Finset S32x48x1536.Idx) : sProp 𝕄 := iprop(∃ f, gP (F := F) c S f)
def cE (c : Dev nD) (S : Finset S32x48x1536.Idx) : sProp 𝕄 := iprop(∃ f, cP (F := F) c S f)
def rE (c : Dev nD) (S : Finset S48x1536.Idx) : sProp 𝕄 := iprop(∃ f, rP (F := F) c S f)

include m in
theorem sE_parts (c : Dev nD) : Parts (sE (F := F) c) := someP_parts ((c : Thread nD τ).loc cc0_scratch0) (m _)
include m in
theorem gE_parts (c : Dev nD) : Parts (gE (F := F) c) := someP_parts ((c : Thread nD τ).loc cc0_scratch1) (m _)
include m in
theorem cE_parts (c : Dev nD) : Parts (cE (F := F) c) := someP_parts ((c : Thread nD τ).loc cc0_scratch2) (m _)
include m in
theorem rE_parts (c : Dev nD) : Parts (rE (F := F) c) := someP_parts ((c : Thread nD τ).loc cc0_scratch3) (m _)

/-- A half of a buffer of 32 slots: slot 0's, and the others'. -/
theorem half_slots {E : Finset S32x48x1536.Idx → sProp 𝕄} (hE : Parts E) (h : Fin 2) :
    E (hset h) = iprop(E (sset 0 h) ∗ bigSep Finset.univ fun r : Fin 31 => E (sset r.succ h)) := by
  rw [← hset_eq h, hE.biUnion Finset.univ (fun s : Fin 32 => sset s h) fun s _ s' _ hne => sset_disjoint s s' h h fun e => hne (congrArg Prod.fst e),
    bigSep_slots]
/-- A buffer of 32 slots: its halves. -/
theorem whole_halves {E : Finset S32x48x1536.Idx → sProp 𝕄} (hE : Parts E) : E Finset.univ = iprop(E (hset 0) ∗ E (hset 1)) := by
  rw [← hset_union, hE.union _ _ hset_disjoint]
include m in
theorem rE_halves (c : Dev nD) : rE (F := F) c Finset.univ = iprop(rE c (rset 0) ∗ rE c (rset 1)) := by
  rw [← rset_union, (rE_parts m c).union _ _ rset_disjoint]

/-! ## The ghost state -/

/-- The device whose cell a transfer's step pays: its own for a send, the peer's for an arrival. -/
def dest (k : Fin 4) (c : Dev nD) (r : Fin 31) : Dev nD := match k with
  | 0 => c
  | 1 => peer c r
  | 2 => c
  | 3 => peer c r

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Something per distance, at one kind and half. -/
def B (Φ : KI → sProp 𝕄) (k : Fin 4) (h : Fin 2) : sProp 𝕄 := bigSep Finset.univ fun r => Φ (k, h, r)

omit [FloatOps F] in
/-- Something per transfer cell, kind by kind and half by half. -/
theorem bigSep_KI (Φ : KI → sProp 𝕄) : bigSep Finset.univ Φ
    = iprop((B Φ 0 0 ∗ B Φ 0 1) ∗ (B Φ 1 0 ∗ B Φ 1 1) ∗ (B Φ 2 0 ∗ B Φ 2 1) ∗ (B Φ 3 0 ∗ B Φ 3 1)) := by
  rw [bigSep_univ_prod, bigSep_fin4]
  simp only [bigSep_univ_prod, Ring.bigSep_fin2]
  rfl

def atF (c : Dev nD) (x : KI) : sProp 𝕄 := atPos ER (kcell (c, .inr x)) 0 ∅ 0
def tkF (c : Dev nD) (x : KI) : sProp 𝕄 := dutyTok ER (kcell (dest x.1 c x.2.2, .inr x)) 0 0
def zeF (c : Dev nD) (x : KI) : sProp 𝕄 := semVal (kcell (c, .inr x)) 0
def crF (c : Dev nD) (x : KI) : sProp 𝕄 := cred (tallyAt (kcell (c, .inr x)) () N)

/-- What the launch deals device `c` for itself: its positions at round 0 of its cells, and the duties it pays. -/
def linear (c : Dev nD) : sProp 𝕄 :=
  iprop((atPos ER (barCell c) 0 ∅ 0 ∗ bigSep Finset.univ (atF (F := F) c))
    ∗ (bigSep Finset.univ fun r : Fin 31 => dutyTok ER (barCell (peer c r)) 0 (rev r)) ∗ bigSep Finset.univ (tkF (F := F) c))

/-- The credit of what arrives at device `c`. -/
def credits (c : Dev nD) : sProp 𝕄 :=
  iprop(cred (tallyAt (barCell c) () 31) ∗ (B (crF (F := F) c) 1 0 ∗ B (crF (F := F) c) 1 1) ∗ B (crF (F := F) c) 3 0 ∗ B (crF (F := F) c) 3 1)

/-- The scratch buffers, of unknown contents. -/
def scratch (c : Dev nD) : sProp 𝕄 := iprop(sE (F := F) c Finset.univ ∗ gE (F := F) c Finset.univ ∗ cE (F := F) c Finset.univ ∗ rE (F := F) c Finset.univ)

/-! ## Regroupings -/

theorem land_intro (c : Dev nD) :
    iprop((bigSep Finset.univ fun r : Fin 31 => gE (F := F) c (sset r.succ 0)) ∗ (bigSep Finset.univ fun r : Fin 31 => gE (F := F) c (sset r.succ 1))
        ∗ (bigSep Finset.univ fun r : Fin 31 => cE (F := F) c (sset r.succ 0)) ∗ bigSep Finset.univ fun r : Fin 31 => cE (F := F) c (sset r.succ 1))
      ⊢ bigSep Finset.univ fun r => land (F := F) c r := by
  unfold land gE cE
  simp only [gaP_eq, bcP_eq, bigSep_sep']
  exact BI.Entails.refl _

/-- The slots a device receives with the barrier: its peers', at each distance. -/
theorem land_elim (c : Dev nD) : (bigSep Finset.univ fun r => land (F := F) (peer c r) r)
    ⊢ iprop((bigSep Finset.univ fun r : Fin 31 => iprop(∃ f, gaP (F := F) (peer c r) r 0 f)) ∗ (bigSep Finset.univ fun r : Fin 31 => iprop(∃ f, gaP (F := F) (peer c r) r 1 f))
        ∗ (bigSep Finset.univ fun r : Fin 31 => iprop(∃ f, bcP (F := F) (peer c r) r 0 f)) ∗ bigSep Finset.univ fun r : Fin 31 => iprop(∃ f, bcP (F := F) (peer c r) r 1 f)) := by
  unfold land
  simp only [bigSep_sep']
  exact BI.Entails.refl _

theorem sig_intro (c : Dev nD) :
    iprop((bigSep Finset.univ fun r : Fin 31 => dutyTok ER (barCell (peer c r)) 0 (rev r)) ∗ bigSep Finset.univ fun r => land (F := F) c r)
      ⊢ bigSep Finset.univ fun r => sigPre (F := F) c r := by
  unfold sigPre
  rw [bigSep_sep', bigSep_univ_equiv revE (fun r => land (F := F) c r)]
  exact BI.Entails.refl _

include m in
theorem stg_intro (c : Dev nD) :
    iprop((bigSep Finset.univ fun r : Fin 31 => sE (F := F) c (sset r.succ 0)) ∗ bigSep Finset.univ fun r : Fin 31 => sE (F := F) c (sset r.succ 1))
      ⊢ bigSep Finset.univ fun r => stgPre (F := F) c r := by
  rw [← bigSep_sep']
  refine bigSep_mono fun r _ => ?_
  rw [← (sE_parts m c).union _ _ (halves r.succ)]
  unfold sE stgPre
  simp only [sP_union, stP_eq]
  exact BI.Entails.refl _

theorem stg_elim (c : Dev nD) : (bigSep Finset.univ fun r => stgPost m c r)
    ⊢ iprop((bigSep Finset.univ fun r => stP c r 0 (stageC m c)) ∗ bigSep Finset.univ fun r => stP c r 1 (stageC m c)) := by
  unfold stgPost
  rw [bigSep_sep']

theorem s1_intro (c : Dev nD) (h : Fin 2) :
    iprop((bigSep Finset.univ fun r => stP c r h (stageC m c)) ∗ (bigSep Finset.univ fun r : Fin 31 => iprop(∃ f, gaP (F := F) (peer c r) r h f))
        ∗ B (tkF (F := F) c) 0 h ∗ B (tkF (F := F) c) 1 h) ⊢ bigSep Finset.univ fun r => s1Pre m c h r := by
  unfold s1Pre B
  simp only [bigSep_sep']
  exact BI.Entails.refl _

theorem s2_intro (c : Dev nD) (h : Fin 2) :
    iprop((bigSep Finset.univ fun r : Fin 31 => iprop(∃ f, bcP (F := F) (peer c r) r h f)) ∗ B (tkF (F := F) c) 2 h ∗ B (tkF (F := F) c) 3 h)
      ⊢ bigSep Finset.univ fun r => s2Tok (F := F) c h r := by
  unfold s2Tok B
  simp only [bigSep_sep']
  exact BI.Entails.refl _

theorem w_intro (c : Dev nD) (k : Fin 4) (h : Fin 2) :
    iprop((bigSep Finset.univ fun r => cred (tallyAt (xCell c k h r) () N)) ∗ B (atF (F := F) c) k h) ⊢ bigSep Finset.univ fun r => wPre (F := F) c k h r := by
  unfold wPre B
  simp only [bigSep_sep']
  exact BI.Entails.refl _

theorem w_elim (c : Dev nD) (k : Fin 4) (h : Fin 2) : (bigSep Finset.univ fun r => wPost m c k h r)
    ⊢ iprop((bigSep Finset.univ fun r => xPay m c (k, h, r)) ∗ B (zeF (F := F) c) k h) := by
  unfold wPost
  rw [bigSep_sep']
  exact BI.Entails.refl _

end Cert.AllReduce
end
-- ==== Proof.Device.lean ====
/- The kernel's body on one device, run from its start to its end. -/
module

public import proofs.«01_k».proof.Proof.Body

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Every element of the result is stored -/

theorem covered (c : Dev nD) (i : S1536x1536.Idx) (h0 : i ∉ oset c 0) (h1 : i ∉ oset c 1) :
    (∃ r : Fin 31, i ∈ oset (backBy c r.succ) 0) ∨ ∃ r : Fin 31, i ∈ oset (backBy c r.succ) 1 := by
  have hi : (i 0).val < 1536 := (i 0).isLt
  have hc : c.val < 32 := c.isLt
  simp only [mem_oset, Fin.val_zero, Fin.val_one] at h0 h1 ⊢
  have hs : (i 0).val / 48 ≠ c.val := by omega
  have hr : (c.val + 32 - (i 0).val / 48) % 32 - 1 < 31 := by omega
  have hb : (backBy c (Fin.succ ⟨_, hr⟩)).val = (i 0).val / 48 := by
    simp only [backBy, Fin.val_succ]; omega
  by_cases hh : (i 0).val / 24 % 2 = 0
  · exact Or.inl ⟨⟨_, hr⟩, by rw [hb]; omega⟩
  · exact Or.inr ⟨⟨_, hr⟩, by rw [hb]; omega⟩

/-! ## From the first transfer to the end -/

/-- What a half starts from. -/
def halfPre (c : Dev nD) (h : Fin 2) : sProp 𝕄 :=
  iprop((bigSep Finset.univ fun r => s1Pre m c h r) ∗ (bigSep Finset.univ fun r => wPre (F := F) c 1 h r) ∗ (bigSep Finset.univ fun r => s2Tok (F := F) c h r)
    ∗ gP c (sset 0 h) (gathC m c) ∗ rE (F := F) c (rset h) ∗ B (atF (F := F) c) 0 h ∗ B (atF (F := F) c) 2 h
    ∗ bigSep Finset.univ fun r => wPre (F := F) c 3 h r)
/-- What a half leaves. -/
def halfPost (c : Dev nD) (h : Fin 2) : sProp 𝕄 :=
  iprop((bigSep Finset.univ fun r => wPost m c 0 h r) ∗ (bigSep Finset.univ fun r => semVal (xCell c 1 h r) 0) ∗ gP c (hset h) (gathC m c)
    ∗ (bigSep Finset.univ fun r => wPost m c 2 h r) ∗ bigSep Finset.univ fun r => wPost m c 3 h r)

/-- What is owed once the barrier is signalled. -/
abbrev O₁ (c : Dev nD) : CellTallies nD τ sig Unit := ((oX 3 1 c dists + oX 3 0 c dists) + oX 1 1 c dists) + oX 1 0 c dists

theorem wp_done (c : Dev nD) {Q : PUnit → sProp 𝕄} : Q ⟨⟩ ⊢ WP (F := F) c (pure ⟨⟩) Q := by
  simp only [Prog.pure_eq_ret]
  show Q ⟨⟩ ⊢ wp frame (wpE (defs₀ (F := F)) 𝒱₀ (c : Thread nD τ) none) Set.univ (Prog.ret ⟨⟩) Q
  rw [wp_ret]
  iintro H
  imodintro
  iexact H

theorem wp_tail (c : Dev nD) {Q : PUnit → sProp 𝕄} :
    iprop(env m K ∗ (halfPre m c 0 ∗ halfPre m c 1) ∗ oG m c (fun _ => True) ∗ ow c (O₁ c)
        ∗ (((halfPost m c 0 ∗ halfPost m c 1) ∗ oP c (outC m c) ∗ ow c 0) -∗ Q ⟨⟩))
      ⊢ WP c (loopTail mO mS wS mG wG mC wC mR wR cc0_scratch4 cc0_scratch5 cc0_scratch6 cc0_scratch7 c) Q := by
  unfold loopTail halfPre halfPost
  iintro ⟨#HE, ⟨⟨Hs0, Hw0, Ht0, Hg0, Hr0, Ha0, Hb0, Hv0⟩, Hs1, Hw1, Ht1, Hg1, Hr1, Ha1, Hb1, Hv1⟩, Ho, HO, Hk⟩
  iapply (wp_sends1 m K c 0 ((oX 3 1 c dists + oX 3 0 c dists) + oX 1 1 c dists))
  isplitr; · iexact HE
  isplitl [Hs0]; · iexact Hs0
  isplitl [HO]; · iexact HO
  iintro ⟨Hx0, HO⟩
  iapply (wp_sends1 m K c 1 (oX 3 1 c dists + oX 3 0 c dists))
  isplitr; · iexact HE
  isplitl [Hs1]; · iexact Hs1
  isplitl [HO]; · iexact HO
  iintro ⟨Hx1, HO⟩
  ihave Hx0 := (w_intro (F := F) c 0 0) $$ [Hx0 Ha0]
  · isplitl [Hx0] <;> iassumption
  ihave Hx1 := (w_intro (F := F) c 0 1) $$ [Hx1 Ha1]
  · isplitl [Hx1] <;> iassumption
  iapply (wp_stHalf m K c 0 (oX 3 1 c dists) (above_oX (by decide) 1 c _) (fun _ => True))
  isplitr; · iexact HE
  isplitl [Hw0]; · iexact Hw0
  isplitl [Ht0]; · iexact Ht0
  isplitl [Hg0]; · iexact Hg0
  isplitl [Hr0]; · unfold rE; iexact Hr0
  isplitl [Ho]; · iexact Ho
  isplitl [HO]; · iexact HO
  iintro ⟨Hw0, Hg0, Hy0, Ho, HO⟩
  iapply (wp_stHalf m K c 1 0 (above_zero _) (fun i => True ∧ i ∉ oset c 0))
  isplitr; · iexact HE
  isplitl [Hw1]; · iexact Hw1
  isplitl [Ht1]; · iexact Ht1
  isplitl [Hg1]; · iexact Hg1
  isplitl [Hr1]; · unfold rE; iexact Hr1
  isplitl [Ho]; · iexact Ho
  isplitl [HO]; · rw [zero_add]; iexact HO
  iintro ⟨Hw1, Hg1, Hy1, Ho, HO⟩
  ihave Hy0 := (w_intro (F := F) c 2 0) $$ [Hy0 Hb0]
  · isplitl [Hy0] <;> iassumption
  ihave Hy1 := (w_intro (F := F) c 2 1) $$ [Hy1 Hb1]
  · isplitl [Hy1] <;> iassumption
  iapply (wp_sents1 m K c 0 0 (above_zero _))
  isplitr; · iexact HE
  isplitl [Hx0]; · iexact Hx0
  isplitl [HO]; · iexact HO
  iintro ⟨Hx0, HO⟩
  iapply (wp_sents1 m K c 1 0 (above_zero _))
  isplitr; · iexact HE
  isplitl [Hx1]; · iexact Hx1
  isplitl [HO]; · iexact HO
  iintro ⟨Hx1, HO⟩
  ihave Ho := (oG_mono m c (P' := pend c 0 (fun i => ∃ r : Fin 31, i ∈ oset (backBy c r.succ) 1) dists) (by
    rintro i ⟨⟨-, h0⟩, h1⟩
    rcases covered c i h0 h1 with ⟨r, hr⟩ | h
    · exact Or.inr ⟨r, List.mem_toFinset.mp (dists_univ ▸ Finset.mem_univ r), hr⟩
    · exact Or.inl h)) $$ Ho
  iapply (wp_recvs2 m K c 0 (fun i => ∃ r : Fin 31, i ∈ oset (backBy c r.succ) 1))
  isplitr; · iexact HE
  isplitl [Hv0]; · iexact Hv0
  isplitl [Ho HO]
  · isplitl [Ho] <;> iassumption
  iintro ⟨Hv0, Ho, HO⟩
  ihave Ho := (oG_mono m c (P' := pend c 1 (fun _ => False) dists) (by
    rintro i (⟨r, hr⟩ | ⟨r, hr, -⟩)
    · exact Or.inr ⟨r, List.mem_toFinset.mp (dists_univ ▸ Finset.mem_univ r), hr⟩
    · exact absurd hr List.not_mem_nil)) $$ Ho
  iapply (wp_recvs2 m K c 1 (fun _ => False))
  isplitr; · iexact HE
  isplitl [Hv1]; · iexact Hv1
  isplitl [Ho HO]
  · isplitl [Ho] <;> iassumption
  iintro ⟨Hv1, Ho, HO⟩
  iapply (wp_sents2 m K c 0 0 (above_zero _))
  isplitr; · iexact HE
  isplitl [Hy0]; · iexact Hy0
  isplitl [HO]; · iexact HO
  iintro ⟨Hy0, HO⟩
  iapply (wp_sents2 m K c 1 0 (above_zero _))
  isplitr; · iexact HE
  isplitl [Hy1]; · iexact Hy1
  isplitl [HO]; · iexact HO
  iintro ⟨Hy1, HO⟩
  iapply (wp_done c)
  iapply Hk
  isplitl [Hx0 Hw0 Hg0 Hy0 Hv0 Hx1 Hw1 Hg1 Hy1 Hv1]
  · isplitl [Hx0 Hw0 Hg0 Hy0 Hv0]
    · isplitl [Hx0]; · iexact Hx0
      isplitl [Hw0]; · iexact Hw0
      isplitl [Hg0]; · iexact Hg0
      isplitl [Hy0] <;> iassumption
    · isplitl [Hx1]; · iexact Hx1
      isplitl [Hw1]; · iexact Hw1
      isplitl [Hg1]; · iexact Hg1
      isplitl [Hy1] <;> iassumption
  isplitl [Ho]
  · unfold oG
    icases Ho with ⟨%f, %hf, Ho⟩
    have e : f = outC m c := funext fun i => hf i (by
      rintro (h | ⟨r, hr, -⟩)
      · exact h
      · exact absurd hr List.not_mem_nil)
    rw [e]; iexact Ho
  iexact HO

/-! ## Up to the first transfer -/

theorem hz : (![0, 0] : Fin 2 → Nat) = fun _ => 0 := funext fun a => by fin_cases a <;> rfl

theorem read_A (f : Vec F S1536x768 .f32) :
    mA.view.readAt (Elt F) (Rect.unit (s := S1536x768) ![0, 0] S1536x768.size inb_S1536x768_S1536x768_0_0).toLoadRect f = f :=
  Memref.readAt_unit_zero (Elt F) cc0_stg0_0 hz _ f
theorem read_B (f : Vec F S768x1536 .f32) :
    mB.view.readAt (Elt F) (Rect.unit (s := S768x1536) ![0, 0] S768x1536.size inb_S768x1536_S768x1536_0_0).toLoadRect f = f :=
  Memref.readAt_unit_zero (Elt F) cc0_stg1_0 hz _ f
theorem write_O (f w : Vec F S1536x1536 .f32) :
    (mO.access (Rect.unit (s := S1536x1536) ![0, 0] S1536x1536.size inb_S1536x1536_S1536x1536_0_0)).write (Elt F) f w Finset.univ = w :=
  Memref.write_access_unit_zero_univ (Elt F) cc0_stg2_0 hz _ f w

theorem accOwn : (mG.access (Rect.unit (s := S32x48x1536) ![0, 0, 0] S1x48x1536.size inb_S32x48x1536_S1x48x1536_0_0_0)).set = sset 0 0 ∪ sset 0 1 :=
  (View.set_slice_whole _ _).trans rect48_zero
theorem accOwn' : (mG.access (Rect.unit (s := S32x48x1536) ![0, 0, 0] S1x48x1536.size inb_S32x48x1536_S1x48x1536_0_0_0)).setOn Finset.univ = sset 0 0 ∪ sset 0 1 :=
  (View.setOn_univ _).trans accOwn

/-- The wait for the peers' signals: their slots at each distance, and the barrier's cell closed. -/
theorem wp_barWait (c : Dev nD) {k : PUnit → PG F} {Q : PUnit → sProp 𝕄} (O : CellTallies nD τ sig Unit) (hO : Above 1 O) :
    iprop(env m K ∗ cred (tallyAt (barCell c) () 31) ∗ atPos ER (barCell c) 0 ∅ 0 ∗ ow c O
        ∗ (((bigSep Finset.univ fun d => land (F := F) (peer c d) d) ∗ semVal (barCell c) 0 ∗ ow c O) -∗ WP c (k ⟨⟩) Q))
      ⊢ WP c (semWaitWord barSem 31#32 >>= k) Q := by
  unfold ow
  simp only [semWaitWord, Prog.lift, Prog.bind_op, Prog.bind_ret]
  iintro ⟨#HE, Hc, Hat, ⟨%W, HO⟩, Hk⟩
  ihave #HI := (env_inv m K (c, .inl ())) $$ HE
  ihave #Hlev := (env_lev m K) $$ HE
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait_k c (.inl ()) O hO); iexact Hlev
    iexact Hat
  iintro ⟨HO, Hat, -, Hpay⟩
  ihave Hp := (show bigSep ((Rd m).duties ((c : Thread nD τ), SemLoc.reg barSem) 0 \ ∅)
      (fun d => (Rd m).payload ((c : Thread nD τ), SemLoc.reg barSem) 0 d) ⊢ bigSep Finset.univ fun d => land (F := F) (peer c d) d from Entails.of_eq (rest_bar m c)) $$ Hpay
  imod (Rounds.cell_close ER (Rd m) (Set.mem_univ (K (c, .inl ()))) (fun h => h) (R := 0 + 1) (duties_later m (barCell c))) $$ [Hat] with Hz
  · isplitr; · iexact HI
    iexact Hat
  iapply Hk
  isplitl [Hp]; · iexact Hp
  isplitl [Hz]; · iexact Hz
  iexists _; iexact HO

/-- The product's own chunk, stored in slot 0 of the gather buffer. -/
theorem wp_own (c : Dev nD) {k : PG F} {Q : PUnit → sProp 𝕄} :
    iprop((gE (F := F) c (sset 0 0) ∗ gE (F := F) c (sset 0 1)) ∗ oP c (prodC m c)
        ∗ (((gP c (sset 0 0) (gathC m c) ∗ gP c (sset 0 1) (gathC m c)) ∗ oP c (prodC m c)) -∗ WP c k Q))
      ⊢ WP c (Prog.lift (.load mO (Rect.unit (s := S1536x1536) (k0_off2 c) S48x1536.size (k0_off2_inb c)).toLoadRect (View.loadsAt_vmem h_S48x1536)) >>= fun z =>
          Prog.lift (.load mG (Rect.unit (s := S32x48x1536) ![0, 0, 0] S1x48x1536.size inb_S32x48x1536_S1x48x1536_0_0_0).toLoadRect (View.loadsAt_vmem h_S1x48x1536)) >>= fun _ =>
          Prog.lift (.store mG (Rect.unit (s := S32x48x1536) ![0, 0, 0] S1x48x1536.size inb_S32x48x1536_S1x48x1536_0_0_0) (payStage z) Finset.univ
            (View.stores_vmem h_S1x48x1536 (wG.storeExact_slice rfl _ packedbf16_S32x48x1536_S1x48x1536_0_0_0) (fun _ => rfl)) (.inl rfl)) >>= fun _ => k) Q := by
  simp only [Prog.lift, Prog.bind_op, Prog.bind_ret]
  rw [← (gE_parts m c).union _ _ (halves 0), ← gP_union]
  unfold gE oP gP
  iintro ⟨⟨%f, Hg⟩, Ho, Hk⟩
  iapply (wp_load 𝒱₀ (c : Thread nD τ) none Set.univ (m := mO) (Finset.subset_univ _)) $$ Ho; iintro Ho
  rw [read_chunk2]
  iapply (wp_load_rect 𝒱₀ (c : Thread nD τ) none Set.univ (m := mG) accOwn.subset) $$ Hg; iintro Hg
  iapply (wp_store 𝒱₀ (c : Thread nD τ) none Set.univ (m := mG) (r := Rect.unit (s := S32x48x1536) ![0, 0, 0] S1x48x1536.size inb_S32x48x1536_S1x48x1536_0_0_0) (Mk := Finset.univ) accOwn'.subset) $$ Hg; iintro Hg
  ihave Hg := (show _ ⊢ (gP c (sset 0 0 ∪ sset 0 1) (gathC m c) : sProp 𝕄) from Entails.of_eq (pointsTo_congr fun i hi => write_own m c f hi)) $$ Hg
  iapply Hk
  isplitl [Hg]
  · unfold gP; iexact Hg
  iexact Ho

/-! ## The end -/

/-- What a half leaves is its halves of the scratch buffers and its counters at zero. -/
theorem half_elim (c : Dev nD) (h : Fin 2) :
    iprop(halfPost m c h ∗ sE (F := F) c (sset 0 h) ∗ cE (F := F) c (sset 0 h))
      ⊢ iprop((sE (F := F) c (hset h) ∗ gE (F := F) c (hset h) ∗ cE (F := F) c (hset h) ∗ rE (F := F) c (rset h))
          ∗ B (zeF (F := F) c) 0 h ∗ B (zeF (F := F) c) 1 h ∗ B (zeF (F := F) c) 2 h ∗ B (zeF (F := F) c) 3 h) := by
  unfold halfPost
  have e0 : (bigSep Finset.univ fun r => xPay m c (0, h, r)) ⊢ bigSep Finset.univ fun r : Fin 31 => sE (F := F) c (sset r.succ h) :=
    bigSep_mono fun r _ => (show xPay m c (0, h, r) ⊢ sP c (sset r.succ h) (stageC m c) from Entails.of_eq (stP_eq c r h (stageC m c))).trans (by
      unfold sE; iintro H; iexists _; iexact H)
  have e3 : (bigSep Finset.univ fun r => xPay m c (3, h, r)) ⊢ bigSep Finset.univ fun r : Fin 31 => cE (F := F) c (sset r.succ h) :=
    bigSep_mono fun r _ => (show xPay m c (3, h, r) ⊢ cP c (sset r.succ h) (bcastC m c) from Entails.of_eq (bcP_eq c r h (bcastC m c))).trans (by
      unfold cE; iintro H; iexists _; iexact H)
  have e2 : (bigSep Finset.univ fun r => xPay m c (2, h, r)) ⊢ rP c (rset h) (redC m c) := Entails.of_eq (rdP_all c h (redC m c)).symm
  iintro ⟨⟨H0, H1, Hg, H2, H3⟩, Hs, Hc⟩
  ihave H0 := (w_elim m c 0 h) $$ H0
  ihave H2 := (w_elim m c 2 h) $$ H2
  ihave H3 := (w_elim m c 3 h) $$ H3
  icases H0 with ⟨Hx, H0⟩
  icases H2 with ⟨Hr, H2⟩
  icases H3 with ⟨Hy, H3⟩
  ihave Hx := e0 $$ Hx
  ihave Hr := e2 $$ Hr
  ihave Hy := e3 $$ Hy
  isplitl [Hs Hx Hg Hc Hy Hr]
  · isplitl [Hs Hx]
    · rw [half_slots (sE_parts m c) h]; isplitl [Hs] <;> iassumption
    isplitl [Hg]; · unfold gE; iexists _; iexact Hg
    isplitl [Hc Hy]
    · rw [half_slots (cE_parts m c) h]; isplitl [Hc] <;> iassumption
    unfold rE; iexists _; iexact Hr
  isplitl [H0]; · iexact H0
  isplitl [H1]; · unfold B zeF; iexact H1
  isplitl [H2] <;> iassumption

theorem end_elim (c : Dev nD) :
    iprop((halfPost m c 0 ∗ halfPost m c 1) ∗ (sE (F := F) c (sset 0 0) ∗ sE (F := F) c (sset 0 1)) ∗ cE (F := F) c (sset 0 0) ∗ cE (F := F) c (sset 0 1))
      ⊢ iprop(scratch (F := F) c ∗ bigSep Finset.univ (zeF (F := F) c)) := by
  unfold scratch
  rw [whole_halves (sE_parts m c), whole_halves (gE_parts m c), whole_halves (cE_parts m c), rE_halves m c, bigSep_KI]
  iintro ⟨⟨H0, H1⟩, ⟨Hs0, Hs1⟩, Hc0, Hc1⟩
  ihave H0 := (half_elim m c 0) $$ [H0 Hs0 Hc0]
  · isplitl [H0]; · iexact H0
    isplitl [Hs0] <;> iassumption
  ihave H1 := (half_elim m c 1) $$ [H1 Hs1 Hc1]
  · isplitl [H1]; · iexact H1
    isplitl [Hs1] <;> iassumption
  icases H0 with ⟨⟨Hs0, Hg0, Hc0, Hr0⟩, Hz00, Hz10, Hz20, Hz30⟩
  icases H1 with ⟨⟨Hs1, Hg1, Hc1, Hr1⟩, Hz01, Hz11, Hz21, Hz31⟩
  isplitl [Hs0 Hs1 Hg0 Hg1 Hc0 Hc1 Hr0 Hr1]
  · isplitl [Hs0 Hs1]; · isplitl [Hs0] <;> iassumption
    isplitl [Hg0 Hg1]; · isplitl [Hg0] <;> iassumption
    isplitl [Hc0 Hc1]; · isplitl [Hc0] <;> iassumption
    isplitl [Hr0] <;> iassumption
  isplitl [Hz00 Hz01]; · isplitl [Hz00] <;> iassumption
  isplitl [Hz10 Hz11]; · isplitl [Hz10] <;> iassumption
  isplitl [Hz20 Hz21]; · isplitl [Hz20] <;> iassumption
  isplitl [Hz30] <;> iassumption

/-! ## The body -/

/-- The operands' staging buffers. -/
def inP (c : Dev nD) : sProp 𝕄 :=
  iprop((((c : Thread nD τ).loc cc0_stg0_0) ↦{fullShare} xstg m c) ∗ ((c : Thread nD τ).loc cc0_stg1_0) ↦{fullShare} ystg m c)

/-- What the body leaves. -/
def left (c : Dev nD) : sProp 𝕄 := iprop(scratch (F := F) c ∗ (bigSep Finset.univ (zeF (F := F) c)) ∗ semVal (barCell c) 0)

theorem wp_body (c : Dev nD) {Q : PUnit → sProp 𝕄} :
    iprop((env m K ∗ linear (F := F) c ∗ credits (F := F) c ∗ scratch (F := F) c) ∗ ow c (O₀ c) ∗ inP m c ∗ (∃ f, oP (F := F) c f)
        ∗ ((left (F := F) c ∗ ow c 0 ∗ inP m c ∗ oP c (outC m c)) -∗ Q ⟨⟩))
      ⊢ WP c (loopBody mA mB mO mS wS mG wG mC wC mR wR cc0_scratch4 cc0_scratch5 cc0_scratch6 cc0_scratch7) Q := by
  unfold loopBody linear credits scratch
  rw [bigSep_KI, bigSep_KI, whole_halves (sE_parts m c), whole_halves (gE_parts m c), whole_halves (cE_parts m c), rE_halves m c]
  simp only [half_slots (sE_parts m c), half_slots (gE_parts m c), half_slots (cE_parts m c)]
  iintro ⟨⟨#HE, ⟨⟨HatB, ⟨Ha00, Ha01⟩, ⟨Ha10, Ha11⟩, ⟨Ha20, Ha21⟩, Ha30, Ha31⟩, HtB, ⟨Ht00, Ht01⟩, ⟨Ht10, Ht11⟩, ⟨Ht20, Ht21⟩, Ht30, Ht31⟩,
    ⟨HcB, ⟨Hc10, Hc11⟩, Hc30, Hc31⟩, ⟨⟨Hs0, Hs0'⟩, Hs1, Hs1'⟩, ⟨⟨Hg0, Hg0'⟩, Hg1, Hg1'⟩, ⟨⟨Hb0, Hb0'⟩, Hb1, Hb1'⟩, Hr0, Hr1⟩, HO, Hin, ⟨%fo, Ho⟩, Hk⟩
  ihave Hland := (land_intro (F := F) c) $$ [Hg0' Hg1' Hb0' Hb1']
  · isplitl [Hg0']; · iexact Hg0'
    isplitl [Hg1']; · iexact Hg1'
    isplitl [Hb0'] <;> iassumption
  ihave Hsig := (sig_intro (F := F) c) $$ [HtB Hland]
  · isplitl [HtB] <;> iassumption
  ihave Hstg := (stg_intro m c) $$ [Hs0' Hs1']
  · isplitl [Hs0'] <;> iassumption
  simp only [Prog.lift, Prog.bind_op, Prog.bind_ret]
  rw [show (O₀ c : CellTallies nD τ sig Unit) = O₁ c + oBar c dists from rfl]
  iapply (Entails.of_eq (wp_deviceId (defs := defs₀ (F := F)) 𝒱₀ (c : Thread nD τ) none Set.univ).symm)
  iapply (wp_signals m K c (O₁ c))
  isplitr; · iexact HE
  isplitl [Hsig]; · iexact Hsig
  isplitl [HO]; · iexact HO
  iintro HO
  iapply (wp_barWait m K c (O₁ c) (((((above_oX (by decide) 1 c _).add (above_oX (by decide) 0 c _)).add (above_oX (by decide) 1 c _)).add (above_oX (by decide) 0 c _))))
  isplitr; · iexact HE
  isplitl [HcB]; · iexact HcB
  isplitl [HatB]; · iexact HatB
  isplitl [HO]; · iexact HO
  iintro ⟨Hland, HzB, HO⟩
  ihave Hland := (land_elim (F := F) c) $$ Hland
  icases Hland with ⟨Hg0', Hg1', Hb0', Hb1'⟩
  unfold inP oP
  icases Hin with ⟨HA, HB⟩
  iapply (wp_load 𝒱₀ (c : Thread nD τ) none Set.univ (m := mA) (Finset.subset_univ _)) $$ HA; iintro HA
  rw [read_A]
  iapply (wp_load 𝒱₀ (c : Thread nD τ) none Set.univ (m := mB) (Finset.subset_univ _)) $$ HB; iintro HB
  rw [read_B]
  iapply (wp_load 𝒱₀ (c : Thread nD τ) none Set.univ (m := mO) (Finset.subset_univ _)) $$ Ho; iintro Ho
  iapply (wp_store 𝒱₀ (c : Thread nD τ) none Set.univ (m := mO) (r := Rect.unit (s := S1536x1536) ![0, 0] S1536x1536.size inb_S1536x1536_S1536x1536_0_0) (Mk := Finset.univ) (Finset.subset_univ _)) $$ Ho; iintro Ho
  rw [write_O]
  ihave Ho := (show iprop((mO.access (Rect.unit (s := S1536x1536) ![0, 0] S1536x1536.size inb_S1536x1536_S1536x1536_0_0)).loc (c : Thread nD τ) ↦{fullShare} payProd (xstg m c) (ystg m c)) ⊢ oP c (prodC m c) from BI.Entails.refl _) $$ Ho
  iapply (wp_stages m c)
  isplitl [Hstg]; · iexact Hstg
  isplitl [Ho]; · iexact Ho
  iintro ⟨Hstg, Ho⟩
  ihave Hstg := (stg_elim m c) $$ Hstg
  icases Hstg with ⟨Hs0', Hs1'⟩
  iapply (wp_own m c)
  isplitl [Hg0 Hg1]; · isplitl [Hg0] <;> iassumption
  isplitl [Ho]; · iexact Ho
  iintro ⟨⟨Hg0, Hg1⟩, Ho⟩
  ihave Hp0 := (s1_intro m c 0) $$ [Hs0' Hg0' Ht00 Ht10]
  · isplitl [Hs0']; · iexact Hs0'
    isplitl [Hg0']; · iexact Hg0'
    isplitl [Ht00] <;> iassumption
  ihave Hp1 := (s1_intro m c 1) $$ [Hs1' Hg1' Ht01 Ht11]
  · isplitl [Hs1']; · iexact Hs1'
    isplitl [Hg1']; · iexact Hg1'
    isplitl [Ht01] <;> iassumption
  ihave Hq0 := (s2_intro (F := F) c 0) $$ [Hb0' Ht20 Ht30]
  · isplitl [Hb0']; · iexact Hb0'
    isplitl [Ht20] <;> iassumption
  ihave Hq1 := (s2_intro (F := F) c 1) $$ [Hb1' Ht21 Ht31]
  · isplitl [Hb1']; · iexact Hb1'
    isplitl [Ht21] <;> iassumption
  ihave Hw10 := (w_intro (F := F) c 1 0) $$ [Hc10 Ha10]
  · isplitl [Hc10]; · unfold B crF; iexact Hc10
    iexact Ha10
  ihave Hw11 := (w_intro (F := F) c 1 1) $$ [Hc11 Ha11]
  · isplitl [Hc11]; · unfold B crF; iexact Hc11
    iexact Ha11
  ihave Hw30 := (w_intro (F := F) c 3 0) $$ [Hc30 Ha30]
  · isplitl [Hc30]; · unfold B crF; iexact Hc30
    iexact Ha30
  ihave Hw31 := (w_intro (F := F) c 3 1) $$ [Hc31 Ha31]
  · isplitl [Hc31]; · unfold B crF; iexact Hc31
    iexact Ha31
  iapply (wp_tail m K c)
  isplitr; · iexact HE
  isplitl [Hp0 Hw10 Hq0 Hg0 Hr0 Ha00 Ha20 Hw30 Hp1 Hw11 Hq1 Hg1 Hr1 Ha01 Ha21 Hw31]
  · unfold halfPre
    isplitl [Hp0 Hw10 Hq0 Hg0 Hr0 Ha00 Ha20 Hw30]
    · isplitl [Hp0]; · iexact Hp0
      isplitl [Hw10]; · iexact Hw10
      isplitl [Hq0]; · iexact Hq0
      isplitl [Hg0]; · iexact Hg0
      isplitl [Hr0]; · iexact Hr0
      isplitl [Ha00]; · iexact Ha00
      isplitl [Ha20] <;> iassumption
    · isplitl [Hp1]; · iexact Hp1
      isplitl [Hw11]; · iexact Hw11
      isplitl [Hq1]; · iexact Hq1
      isplitl [Hg1]; · iexact Hg1
      isplitl [Hr1]; · iexact Hr1
      isplitl [Ha01]; · iexact Ha01
      isplitl [Ha21] <;> iassumption
  isplitl [Ho]
  · unfold oG
    iexists _
    isplitr
    rotate_left
    · iexact Ho
    · ipureintro; exact fun i hi => absurd trivial hi
  isplitl [HO]; · iexact HO
  iintro ⟨Hh, Ho, HO⟩
  ihave Hend := (end_elim m c) $$ [Hh Hs0 Hs1 Hb0 Hb1]
  · isplitl [Hh]; · iexact Hh
    isplitl [Hs0 Hs1]; · isplitl [Hs0] <;> iassumption
    isplitl [Hb0] <;> iassumption
  icases Hend with ⟨Hscr, Hz⟩
  iapply Hk
  unfold left scratch
  rw [whole_halves (sE_parts m c), whole_halves (gE_parts m c), whole_halves (cE_parts m c), rE_halves m c]
  simp only [half_slots (sE_parts m c), half_slots (gE_parts m c), half_slots (cE_parts m c)]
  isplitl [Hscr Hz HzB]
  · isplitl [Hscr]; · iexact Hscr
    isplitl [Hz] <;> iassumption
  isplitl [HO]; · iexact HO
  isplitl [HA HB]; · isplitl [HA] <;> iassumption
  unfold oP; iexact Ho

end Cert.AllReduce
end
-- ==== Proof.Data.lean ====
/- What the launch is told of the region: its arrays, what the body leaves, what is held and owed before and after it;
   and that the body keeps to it. -/
module

public import proofs.«01_k».proof.Proof.Device
public import proofs.«01_k».proof.Proof.Gen.KernelIdeal.Points

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- What device `c` starts from besides its buffers. -/
def start (c : Dev nD) : sProp 𝕄 := iprop((∃ K, env m K ∗ linear (F := F) c) ∗ credits (F := F) c)
/-- Held before the body. -/
def Φ₀ (c : Dev nD) : sProp 𝕄 := iprop(start m c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => ystg m c
    | ⟨2, _⟩ => outC m c
  Φ t := match t with
    | ⟨0, _⟩ => Φ₀ m c
    | ⟨_ + 1, _⟩ => left (F := F) c
  q _ := fullShare
  owed t := match t with
    | ⟨0, _⟩ => O₀ c
    | ⟨_ + 1, _⟩ => 0

/-- The region's one point. -/
def t₀ : Fin cfg0.N := t0_0
theorem fin_N (t : Fin cfg0.N) : t = t₀ := fin_N0 t

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
/-- A whole buffer held at known contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(left (F := F) c ∗ (dats m ρ 0 c).owesAt () t₀.succ ∗ stg c cc0_stg0_0 (xstg m c) ∗ stg c cc0_stg1_0 (ystg m c) ∗ stg c cc0_stg2_0 (outC m c))

theorem sound_body (c : Dev nD) :
    bodyPre m ρ c ⊢ WP c (loopBody mA mB mO mS wS mG wG mC wC mR wR cc0_scratch4 cc0_scratch5 cc0_scratch6 cc0_scratch7) (fun _ => bodyPost m ρ c) := by
  unfold bodyPre Φ₀ start
  iintro ⟨⟨⟨⟨%K, HE, Hl⟩, Hc⟩, Hs⟩, Ho, ⟨%d0, %g0, %hg0, Hx⟩, ⟨%d1, %g1, %hg1, Hy⟩, ⟨%d2, %g2, %hg2, Hout⟩⟩
  have hx : g0 = xstg m c := by rw [hg0]; unfold Dat.before; rw [if_pos (fetch0_0 t₀)]; rfl
  have hy : g1 = ystg m c := by rw [hg1]; unfold Dat.before; rw [if_pos (fetch0_1 t₀)]; rfl
  subst hx hy
  unfold Dat.owesAt Pipeline.owesWithin
  icases Ho with ⟨%W, %hW, HO⟩
  rw [show (dats m ρ 0 c).owed t₀.castSucc = O₀ c from rfl]
  iapply (wp_body m K c)
  isplitl [HE Hl Hc Hs]
  · isplitl [HE]; · iexact HE
    isplitl [Hl]; · iexact Hl
    isplitl [Hc] <;> iassumption
  isplitl [HO]; · unfold ow; iexists W; iexact HO
  isplitl [Hx Hy]
  · unfold inP; isplitl [Hx] <;> iassumption
  isplitl [Hout]; · iexists g2; unfold oP; iexact Hout
  unfold ow inP oP
  iintro ⟨Hl, ⟨%W', HO⟩, ⟨Hx, Hy⟩, Hout⟩
  unfold bodyPost Dat.owesAt Pipeline.owesWithin
  rw [show (dats m ρ 0 c).owed t₀.succ = 0 from rfl]
  isplitl [Hl]; · iexact Hl
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

/-- The body keeps to it, on every device. -/
theorem body_obligation (c : Dev nD) : BodyObligation (dats (F := F) m ρ 0 c) (defs₀ (F := F)) 𝒱₀ () Set.univ := fun t => by
  rw [fin_N t]
  rw [bigSep_W, bigSep_W]
  simp only [owns_whole]
  have h := sound_body m ρ c
  rw [← body_eq_loop] at h
  exact h

end Cert.AllReduce

end
-- ==== Proof.Run.lean ====
/- The launch: the protocol's ghost state dealt to the devices, the credit owed at the start, and the whole run. -/
module

public import proofs.«01_k».proof.Proof.Data
public import Idealize.ShloMosaic.Lib.Pipeline.CollectiveSegs

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev osem : KI → SemLoc sig := fun x => .dma (semOf x)

theorem osem_scoped : ∀ x : KI, (osem x).isScoped .tc = true := by decide +kernel
theorem osem_disj : ∀ (x : KI) (w : Fin 3) (s : Fin (cfg0.spec w).nbuf), osem x ≠ .dma ((cfg0.spec w).sem s) := by decide +kernel
theorem ownSemFacts : Pipeline.OwnSemFacts cfg0.spec osem :=
  ⟨osem_scoped, fun x y h => Sum.inr.inj (csem_injective (show csem (.inr x) = csem (.inr y) from h)), osem_disj⟩

theorem share_eq (c : Dev nD) (w : Fin cfg0.W) : (dats m ρ 0 c).share w = fullShare := by unfold Dat.share; split <;> rfl

/-! ## The ghost state minted -/

def ringCells : Finset (GSem nD τ sig) := Finset.univ.map ⟨kcell, kcell_injective⟩

/-- A device's duty tokens as minted: one per barrier duty, one per transfer cell. -/
abbrev DK : Type := Fin 31 ⊕ KI
def dutyOf : DK → CK × Fin 31
  | .inl d => (.inl (), d)
  | .inr x => (.inr x, 0)
theorem dutyOf_injective : Function.Injective dutyOf := by
  rintro (d | x) (d' | x') h
  · exact congrArg Sum.inl (congrArg Prod.snd h)
  · exact absurd (congrArg Prod.fst h) (fun e => nomatch e)
  · exact absurd (congrArg Prod.fst h) (fun e => nomatch e)
  · exact congrArg Sum.inr (Sum.inr.inj (congrArg Prod.fst h))
def tokOf (p : Dev nD × DK) : GSem nD τ sig × ℕ × Fin 31 := (kcell (p.1, (dutyOf p.2).1), 0, (dutyOf p.2).2)
theorem tokOf_injective : Function.Injective tokOf := by
  rintro ⟨c, j⟩ ⟨c', j'⟩ h
  have h1 := kcell_iff.mp (congrArg Prod.fst h)
  have h2 : (dutyOf j).2 = (dutyOf j').2 := congrArg (fun x : GSem nD τ sig × ℕ × Fin 31 => x.2.2) h
  exact Prod.ext h1.1 (dutyOf_injective (Prod.ext h1.2 h2))
def ringToks : Finset (GSem nD τ sig × ℕ × Fin 31) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 31 => dutyTok ER (barCell c) 0 d) ∗ bigSep Finset.univ fun x : KI => dutyTok ER (kcell (c, .inr x)) 0 0)

/-- What the launch element deals device `c`. -/
def G (c : Dev nD) : sProp 𝕄 :=
  iprop((bigSep Finset.univ fun k : CK => roundState ER (Rd m) (kcell (c, k)) 0)
    ∗ ((bigSep Finset.univ fun k : CK => atPos ER (kcell (c, k)) 0 ∅ 0) ∗ bigSep Finset.univ fun k : CK => reached ER (kcell (c, k)) 0) ∗ toks (F := F) c)

omit [FloatOps F] in
theorem over_cells (Φ : GSem nD τ sig → sProp 𝕄) :
    bigSep ringCells Φ = bigSep Finset.univ fun c : Dev nD => bigSep Finset.univ fun k : CK => Φ (kcell (c, k)) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks (F := F) c := by
  unfold ringToks; rw [bigSep_map, bigSep_univ_prod]
  exact bigSep_congr fun c _ => by unfold toks; rw [bigSep_univ_sum]; rfl

theorem fund_ring : BI.own (ER (initOf ringCells ringToks)) ⊢ (|==> bigSep Finset.univ (G m) : sProp 𝕄) := by
  iintro HX
  imod (Rounds.fund ER (Rd (F := F) m) ringCells ringToks) $$ HX with ⟨Hst, Hr, Hat, Htok⟩
  imodintro
  ihave Hst' := (Entails.of_eq (over_cells fun g => roundState ER (Rd (F := F) m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-! ## The cells' invariants allocated, and the tokens dealt to those who pay -/

omit [FloatOps F] in
theorem unscoped_eq (c : Dev nD) : (unscopedSems0 c : sProp 𝕄) = semVal (barCell c) 0 := by
  unfold unscopedSems0; rw [bigSep_eq_bigSepL_of_eq [SemLoc.reg barSem] (by decide) (by decide)]; rfl
omit [FloatOps F] in
theorem own_eq (c : Dev nD) : (Pipeline.ownSems0 (Ix := Unit) (Name := ℕ) (U := UU) (Lvl := ℕ) (Val := Elt F) (τ := τ) osem c : sProp 𝕄)
    = bigSep Finset.univ (zeF (F := F) c) := rfl

omit [FloatOps F] in
/-- One cell and the transfer cells. -/
theorem bigSep_CK (Φ : CK → sProp 𝕄) : bigSep Finset.univ Φ = iprop(Φ (.inl ()) ∗ bigSep Finset.univ fun x : KI => Φ (.inr x)) := by
  rw [bigSep_univ_sum]
  congr 1
  exact bigSep_singleton ..

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [own_eq, unscoped_eq, bigSep_CK]
  unfold zeF
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (F := F) m) κ (kcell (c, k))))
          ∗ ((bigSep Finset.univ fun k : CK => atPos ER (kcell (c, k)) 0 ∅ 0) ∗ bigSep Finset.univ fun k : CK => reached ER (kcell (c, k)) 0) ∗ toks (F := F) c) := by
  unfold G
  iintro ⟨Hos, Hus, Hst, Hat, Htok⟩
  ihave Hv := (sems0 (F := F) c) $$ [Hos Hus]
  · isplitl [Hos] <;> iassumption
  imod (show iprop((bigSep Finset.univ fun k : CK => semVal (kcell (c, k)) 0) ∗ bigSep Finset.univ fun k : CK => roundState ER (Rd (F := F) m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd (F := F) m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows, the levels aside. -/
def records (K : Dev nD × CK → ℕ) : sProp 𝕄 :=
  iprop((bigSep Finset.univ fun ck : Dev nD × CK => cellInv ER (Rd (F := F) m) (K ck) (kcell ck))
    ∗ bigSep Finset.univ fun ck : Dev nD × CK => reached ER (kcell ck) 0)

instance records_persistent (K : Dev nD × CK → ℕ) : BI.Persistent (records (F := F) m K) := by unfold records; infer_instance

/-- What the launch makes of a device's deal. -/
def G' (c : Dev nD) : sProp 𝕄 := iprop(∃ K, records m K ∗ linear (F := F) c)

/-- The barrier duty that a device pays at a distance, as a duty of the peer's: its own inverse. -/
def barE : (Dev nD × Fin 31) ≃ (Dev nD × Fin 31) :=
  ⟨fun p => (peer p.1 p.2, rev p.2), fun p => (peer p.1 p.2, rev p.2),
    fun p => Prod.ext (peer_rev p.1 p.2) (rev_rev p.2), fun p => Prod.ext (peer_rev p.1 p.2) (rev_rev p.2)⟩

theorem dest_injective (k : Fin 4) (r : Fin 31) : Function.Injective fun c => dest k c r := by
  unfold dest
  split
  · exact fun _ _ h => h
  · exact (peerE r).injective
  · exact fun _ _ h => h
  · exact (peerE r).injective
theorem destX_injective : Function.Injective fun p : Dev nD × KI => (dest p.2.1 p.1 p.2.2.2, p.2) := by
  rintro ⟨c, x⟩ ⟨c', x'⟩ h
  obtain rfl : x = x' := congrArg Prod.snd h
  exact Prod.ext (dest_injective x.1 x.2.2 (congrArg Prod.fst h)) rfl
/-- The transfer duty that a device pays, as a duty of the device whose cell it is. -/
def destE : (Dev nD × KI) ≃ (Dev nD × KI) := Equiv.ofBijective _ (Finite.injective_iff_bijective.mp destX_injective)

/-- The duties a device pays. -/
def payToks (c : Dev nD) : sProp 𝕄 :=
  iprop((bigSep Finset.univ fun r : Fin 31 => dutyTok ER (barCell (peer c r)) 0 (rev r)) ∗ bigSep Finset.univ (tkF (F := F) c))

omit [FloatOps F] in
theorem bar_around : (bigSep Finset.univ fun c : Dev nD => bigSep Finset.univ fun d : Fin 31 => (dutyTok ER (barCell c) 0 d : sProp 𝕄))
    = bigSep Finset.univ fun c : Dev nD => bigSep Finset.univ fun r : Fin 31 => dutyTok ER (barCell (peer c r)) 0 (rev r) := by
  rw [← bigSep_univ_prod (fun p : Dev nD × Fin 31 => (dutyTok ER (barCell p.1) 0 p.2 : sProp 𝕄)), bigSep_univ_equiv barE, bigSep_univ_prod]
  rfl
omit [FloatOps F] in
theorem x_around : (bigSep Finset.univ fun c : Dev nD => bigSep Finset.univ fun x : KI => (dutyTok ER (kcell (c, .inr x)) 0 0 : sProp 𝕄))
    = bigSep Finset.univ fun c : Dev nD => bigSep Finset.univ (tkF (F := F) c) := by
  rw [← bigSep_univ_prod (fun p : Dev nD × KI => (dutyTok ER (kcell (p.1, .inr p.2)) 0 0 : sProp 𝕄)), bigSep_univ_equiv destE, bigSep_univ_prod]
  rfl
omit [FloatOps F] in
theorem toks_around : (bigSep Finset.univ fun c : Dev nD => (toks c : sProp 𝕄)) = bigSep Finset.univ fun c : Dev nD => payToks (F := F) c := by
  unfold toks payToks
  rw [bigSep_sep', bigSep_sep', bar_around, x_around]

omit [FloatOps F] in
theorem linear_intro (c : Dev nD) : iprop((bigSep Finset.univ fun k : CK => atPos ER (kcell (c, k)) 0 ∅ 0) ∗ payToks (F := F) c) ⊢ (linear (F := F) c : sProp 𝕄) := by
  unfold linear payToks atF
  rw [bigSep_CK]

omit [FloatOps F] in
/-- A persistent fact given to each. -/
theorem bigSep_giving {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd (F := F) m) κ (kcell (c, k))))
          ∗ ((bigSep Finset.univ fun k : CK => atPos ER (kcell (c, k)) 0 ∅ 0) ∗ bigSep Finset.univ fun k : CK => reached ER (kcell (c, k)) 0) ∗ toks c) : sProp 𝕄)
      ⊢ bigSep Finset.univ (G' m) := by
  rw [bigSep_sep', bigSep_sep', bigSep_sep', ← bigSep_univ_prod (fun ck : Dev nD × CK => iprop(∃ κ : ℕ, cellInv ER (Rd (F := F) m) κ (kcell ck))),
    ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd (F := F) m) κ (kcell ck) : sProp 𝕄))) $$ HI
  icases HK with ⟨%K, #HI⟩
  have hg : ∀ c ∈ (Finset.univ : Finset (Dev nD)), iprop(records m K ∗ linear (F := F) c) ⊢ G' m c := fun c _ => by
    unfold G'; iintro H; iexists K; iexact H
  iapply (bigSep_giving (R := records m K) hg)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) (payToks (F := F))).symm).trans
      (bigSep_mono fun c _ => linear_intro c))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem owedL_apply (f : Fin 31 → CellTallies nD τ sig Unit) (g : GSem nD τ sig) (u : Unit) : ∀ l, owedL f l g u = (l.map fun r => f r g u).sum
  | [] => rfl
  | a :: l => by
    show (owedL f l + f a) g u = _
    rw [Pi.add_apply, Finsupp.add_apply, owedL_apply f g u l, List.map_cons, List.sum_cons, Nat.add_comm]
theorem dists_range : dists = List.finRange 31 := by decide

/-- What all devices together owe one cell, when each owes its peer at every distance a cell of the kind `κ` there. -/
theorem owed_sum (κ : Fin 31 → CK) (a : ℕ) (c : Dev nD) (k : CK) :
    (∑ d : Dev nD, owedL (fun r => tallyAt (kcell (peer d r, κ r)) () a) dists (kcell (c, k)) ()) = ∑ r : Fin 31, if κ r = k then a else 0 := by
  have e (d : Dev nD) : owedL (fun r => tallyAt (kcell (peer d r, κ r)) () a) dists (kcell (c, k)) ()
      = ∑ r : Fin 31, if peer d r = c then (if κ r = k then a else 0) else 0 := by
    rw [owedL_apply, dists_range, ← Fin.sum_univ_def]
    refine Finset.sum_congr rfl fun r _ => ?_
    rw [tallyAt_apply]
    by_cases h1 : peer d r = c
    · by_cases h2 : κ r = k
      · rw [if_pos ⟨by rw [h1, h2], rfl⟩, if_pos h1, if_pos h2]
      · rw [if_neg (fun h => h2 (kcell_iff.mp h.1).2.symm), if_pos h1, if_neg h2]
    · rw [if_neg (fun h => h1 (kcell_iff.mp h.1).1.symm), if_neg h1]
  rw [Finset.sum_congr rfl fun d _ => e d, Finset.sum_comm]
  refine Finset.sum_congr rfl fun r _ => ?_
  rw [show (∑ d : Dev nD, if peer d r = c then (if κ r = k then a else 0) else 0) = ∑ d : Dev nD, (fun d : Dev nD => if d = c then (if κ r = k then a else 0) else 0) (peerE r d) from rfl,
    Equiv.sum_comp (peerE r) (fun d : Dev nD => if d = c then (if κ r = k then a else 0) else 0), Finset.sum_ite_eq' Finset.univ c, if_pos (Finset.mem_univ _)]

/-- What a cell is owed at launch. -/
def lam : CK → ℕ
  | .inl _ => 31
  | .inr x => if x.1 = 1 ∨ x.1 = 3 then N else 0

theorem sum_x (k : Fin 4) (h : Fin 2) (x : KI) :
    (∑ r : Fin 31, if (Sum.inr (k, h, r) : CK) = .inr x then N else 0) = if k = x.1 ∧ h = x.2.1 then N else 0 := by
  obtain ⟨k', h', r'⟩ := x
  by_cases e : k = k' ∧ h = h'
  · obtain ⟨rfl, rfl⟩ := e
    rw [if_pos ⟨rfl, rfl⟩, Finset.sum_eq_single r']
    · rw [if_pos rfl]
    · intro r _ hr; rw [if_neg (fun q => hr (congrArg (fun x : KI => x.2.2) (Sum.inr.inj q)))]
    · exact fun q => absurd (Finset.mem_univ _) q
  · rw [if_neg e]
    exact Finset.sum_eq_zero fun r _ => if_neg fun q => e ⟨congrArg (fun x : KI => x.1) (Sum.inr.inj q), congrArg (fun x : KI => x.2.1) (Sum.inr.inj q)⟩

theorem sum_cases (n : ℕ) : ∀ (k : Fin 4) (h : Fin 2), (if (3 : Fin 4) = k ∧ (1 : Fin 2) = h then n else 0) + (if (3 : Fin 4) = k ∧ (0 : Fin 2) = h then n else 0)
    + (if (1 : Fin 4) = k ∧ (1 : Fin 2) = h then n else 0) + (if (1 : Fin 4) = k ∧ (0 : Fin 2) = h then n else 0) = if k = 1 ∨ k = 3 then n else 0 := by
  intro k h
  fin_cases k <;> fin_cases h <;> simp

theorem launch_amount (c : Dev nD) (k : CK) : (∑ d : Dev nD, O₀ d (kcell (c, k)) ()) = lam k := by
  have e (d : Dev nD) : O₀ d (kcell (c, k)) () = oX 3 1 d dists (kcell (c, k)) () + oX 3 0 d dists (kcell (c, k)) () + oX 1 1 d dists (kcell (c, k)) ()
      + oX 1 0 d dists (kcell (c, k)) () + oBar d dists (kcell (c, k)) () := by
    unfold O₀; simp only [Pi.add_apply, Finsupp.add_apply]
  rw [Finset.sum_congr rfl fun d _ => e d]
  simp only [Finset.sum_add_distrib]
  rw [owed_sum (fun r => .inr (3, 1, r)), owed_sum (fun r => .inr (3, 0, r)), owed_sum (fun r => .inr (1, 1, r)), owed_sum (fun r => .inr (1, 0, r)),
    owed_sum (fun _ => .inl ())]
  match k with
  | .inl () => simp [lam]
  | .inr x =>
    rw [sum_x, sum_x, sum_x, sum_x, sum_cases]
    simp [lam]

theorem launch_cell (c : Dev nD) (k : CK) :
    tallyOn (kcell (c, k)) (launchCredit (Pipeline.owing O₀) 0 (kcell (c, k))) = (tallyAt (kcell (c, k)) () (lam k) : CellTallies nD τ sig Unit) := by
  unfold tallyAt; refine congrArg _ (Finsupp.ext fun u => ?_); cases u
  rw [Pipeline.launchCredit_owing, Finsupp.single_eq_same, launch_amount]

omit [FloatOps F] in
theorem creds (c : Dev nD) : (Pipeline.launchCred O₀ c : sProp 𝕄) ⊢ credits (F := F) c := by
  unfold Pipeline.launchCred credits
  refine (bigSep_subset (Finset.subset_univ (Finset.univ.map ⟨csem, csem_injective⟩))).trans ?_
  rw [bigSep_map]
  refine (Entails.of_eq (bigSep_congr (s := Finset.univ) fun k _ => congrArg cred (launch_cell c k))).trans ?_
  rw [bigSep_CK, bigSep_KI]
  iintro ⟨H0, ⟨-, -⟩, ⟨H10, H11⟩, ⟨-, -⟩, H30, H31⟩
  unfold B crF
  isplitl [H0]; · iexact H0
  isplitl [H10 H11]
  · isplitl [H10]; · iexact H10
    iexact H11
  isplitl [H30]; · iexact H30
  iexact H31

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' records env
  iintro ⟨-, Hlev, Hcr, -, ⟨%K, ⟨HI, HR⟩, Hl⟩⟩
  ihave Hc := (creds (F := F) c) $$ Hcr
  imodintro
  isplitl
  · isplitr [Hc]
    · iexists K
      isplitr [Hl]
      · isplitl [HI]; · iexact HI
        isplitl [HR] <;> iassumption
      · iexact Hl
    · iexact Hc
  · iempintro

theorem scratch_eq (c : Dev nD) : (Pipeline.scopedRest (Ix := Unit) (Name := ℕ) (U := UU) (Lvl := ℕ) (Val := Elt F) spec0 c : sProp 𝕄) = scratch (F := F) c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = left (F := F) c from rfl, scratch_eq, own_eq, unscoped_eq]
  unfold left
  iintro ⟨Hr, HzS, HzB⟩
  isplitl [HzB]; · iexact HzB
  isplitl [HzS] <;> iassumption

theorem stage_level : ∀ (w : Fin 3) (s : Fin (cfg0.spec w).nbuf), lvOf ((decode ((cfg0.spec w).sem s)).map Sum.inr) = 0 := by decide +kernel

theorem lv_dma (c : Dev nD) (q : DmaSem sig) : lv ((c : Thread nD τ), .dma q) () = lvOf ((decode q).map Sum.inr) := by
  unfold lv cls; rw [if_pos rfl]

theorem waits (c : Dev nD) : (levAts L lv : sProp 𝕄) ⊢ Pipeline.cellsWaits cfgs (dats m ρ) () 0 c :=
  Pipeline.cellsWaits_intro cfgs (dats m ρ) () 0 c fun w s t =>
    mayWait c _ 0 (le_of_eq ((lv_dma c _).trans (stage_level w s))) _ (by
      rcases t with ⟨_ | _, ht⟩
      · exact above_O₀ c
      · exact above_zero 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every fair execution ends, each array then at its final contents and every
    counter at zero. -/
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce

end
-- ==== Proof.Final.lean ====
/- The run's final arrays read back: the two operands as they were, the result the contents computed for it. -/
module

public import proofs.«01_k».proof.Proof.Run
public import Idealize.ShloMosaic.Lib.Pipeline.Value

@[expose] public section

set_option maxRecDepth 16384

noncomputable section

namespace Cert.AllReduce

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A window of one whole block reads the array itself: of the left operand, -/
theorem read_blk0 (X : Vec F S1536x768 .f32) : (win0_0.blk (0 : Fin 1)).view.read (Elt F) X = X :=
  funext fun j => congrArg X (funext fun a => Fin.ext (by
    match a with
    | ⟨0, _⟩ => show 0 * 1536 + 1 * (j 0).val = (j 0).val; omega
    | ⟨1, _⟩ => show 0 * 768 + 1 * (j 1).val = (j 1).val; omega))
/-- of the right one, -/
theorem read_blk1 (X : Vec F S768x1536 .f32) : (win0_1.blk (0 : Fin 1)).view.read (Elt F) X = X :=
  funext fun j => congrArg X (funext fun a => Fin.ext (by
    match a with
    | ⟨0, _⟩ => show 0 * 768 + 1 * (j 0).val = (j 0).val; omega
    | ⟨1, _⟩ => show 0 * 1536 + 1 * (j 1).val = (j 1).val; omega))
/-- where an element of the result's block lies; -/
theorem emb_blk2 (j : S1536x1536.Idx) : (win0_2.blk (0 : Fin 1)).view.emb j = j :=
  funext fun a => Fin.ext (by
    match a with
    | ⟨0, _⟩ => show 0 * 1536 + 1 * (j 0).val = (j 0).val; omega
    | ⟨1, _⟩ => show 0 * 1536 + 1 * (j 1).val = (j 1).val; omega)
/-- and of the result. -/
theorem read_blk2 (X : Vec F S1536x1536 .f32) : (win0_2.blk (0 : Fin 1)).view.read (Elt F) X = X :=
  funext fun j => congrArg X (emb_blk2 j)

/-- The operands are not written. -/
theorem finalA_0 (c : Dev nD) : finalA m ρ c (0 : Fin 3) = m ((c : Thread nD τ).loc main_arg0) := (dats m ρ 0 c).arrAt_in (0 : Fin 3) rfl _
theorem finalA_1 (c : Dev nD) : finalA m ρ c (1 : Fin 3) = m ((c : Thread nD τ).loc main_arg1) := (dats m ρ 0 c).arrAt_in (1 : Fin 3) rfl _

/-- The result is what the body left in its staging buffer. -/
theorem finalA_2 (c : Dev nD) : finalA m ρ c (2 : Fin 3) = outC m c :=
  (dats m ρ 0 c).arrAt_eq_of_cover (2 : Fin 3) (outC m c)
    (fun t _ => by
      rw [fin_N t]
      exact Eq.trans rfl (read_blk2 (outC m c)).symm)
    (fun i => ⟨t₀, flush0_2 _, (Finset.mem_map).mpr ⟨i, Finset.mem_univ _, emb_blk2 i⟩⟩)

/-- Every fair execution ends, the result of every device then `outC`, its operands as they were, all counters zero. -/
theorem run_main : θ_run defs (onTc (τ := τ) (main (F := F))) ⟨m, fun _ => 0, ρ⟩ (fun r => (∀ c : Dev nD,
    r.2.mem ((c.tc : Thread nD τ).loc main_v1) = outC m c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (finalA_2 m ρ c), (h.1 c (0 : Fin 3)).trans (finalA_0 m ρ c),
    (h.1 c (1 : Fin 3)).trans (finalA_1 m ρ c)⟩, h.2⟩) (run_region m ρ)

/-- The same without the result. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

end Cert.AllReduce

end
-- ==== Proof.Value.lean ====
/- The result at the extended reals: on every device the sum over the mesh of the partial products, which is the product of
   the whole arrays. -/
module

public import proofs.«01_k».proof.Proof.Final
public import proofs.«01_k».proof.ReferenceIdeal
public import Idealize.ShloMosaic.Lib.KernelVsHost
public import Idealize.ShloMosaic.Lib.StackMember
public import Idealize.ShloMosaic.Lib.Layout
public import Idealize.ShloMosaic.PureOps.Ideal.Laws

@[expose] public section

set_option maxRecDepth 16384

noncomputable section

namespace Cert.AllReduce

open Cert.KernelIdeal Cert.KernelIdeal.Gen
open Idealize.ShloMosaic Idealize.ShloMosaic.TcCoe

variable (m : (ℓ : Loc nD τ sig) → Buf (Elt Ideal) ℓ)

/-- Device `c`'s left operand. -/
abbrev argA (c : Dev nD) : Vec Ideal S1536x768 .f32 := m ((c : Thread nD τ).loc main_arg0)
/-- Its right one. -/
abbrev argB (c : Dev nD) : Vec Ideal S768x1536 .f32 := m ((c : Thread nD τ).loc main_arg1)

/-! ## The stored values at an index -/

/-- The partial product at an index. -/
theorem payProd_apply (x : Vec Ideal S1536x768 .f32) (y : Vec Ideal S768x1536 .f32) (a b : Fin 1536) :
    payProd x y (ix2 a b) = ∑ k : Fin 768, x (ix2 a k) * y (ix2 k b) := by
  unfold payProd
  rw [matmul_zero_eq_dotGeneral, shapeCast_id, shapeCast_id]
  exact StackMember.dotGeneral_plain_apply (m := 1536) (n := 1536) (k := 768) none _ _ a b

/-- A slot is the rows it was made of. -/
theorem payStage_apply (x : Vec Ideal S48x1536 .f32) (p : Fin 48) (q : Fin 1536) : payStage x (ix3 (0 : Fin 1) p q) = x (ix2 p q) := by
  unfold payStage
  rw [shapeCast_id]
  refine (shapeCast_apply _ _ _ (ix2 p q) ?_).trans rfl
  rw [Shape.rowMajor_val_two, Shape.rowMajor_val_three]
  show p.val * 1536 + q.val = (0 * 48 + p.val) * 1536 + q.val
  omega

/-- A received half is the slot it lay in. -/
theorem payOut_apply (x : Vec Ideal S1x24x1536 .bf16) (p : Fin 24) (q : Fin 1536) : payOut x (ix2 p q) = x (ix3 (0 : Fin 1) p q) := by
  unfold payOut
  refine (shapeCast_apply x _ _ (ix3 (0 : Fin 1) p q) ?_)
  rw [Shape.rowMajor_val_two, Shape.rowMajor_val_three]
  show (0 * 24 + p.val) * 1536 + q.val = p.val * 1536 + q.val
  omega

/-- The reduction is the sum over the slots. -/
theorem paySum_apply (x : Vec Ideal S32x24x1536 .bf16) (p : Fin 24) (q : Fin 1536) :
    paySum x (ix2 p q) = ∑ s : Fin 32, x (ix3 s p q) := by
  unfold paySum
  refine (Ideal.multiReduction_add_single _ _ _ _ _ _).trans ?_
  refine Finset.sum_congr rfl fun s _ => congrArg x (funext fun a => Fin.ext ?_)
  match a with
  | ⟨0, _⟩ => rfl
  | ⟨1, _⟩ => rfl
  | ⟨2, _⟩ => rfl

theorem payRed_apply (x : Vec Ideal S32x24x1536 .bf16) (p : Fin 24) (q : Fin 1536) : payRed x (ix2 p q) = paySum x (ix2 p q) := by
  unfold payRed
  rw [shapeCast_id]
  rfl

/-! ## The buffers at an index -/

/-- The sum over the mesh of the partial products. -/
def total (i : S1536x1536.Idx) : EReal := ∑ d : Dev nD, (prodC m d i : EReal)

theorem prodC_apply (d : Dev nD) (a b : Fin 1536) :
    (prodC m d (ix2 a b) : EReal) = ∑ k : Fin 768, (argA m d (ix2 a k) : EReal) * argB m d (ix2 k b) := by
  unfold prodC xstg ystg
  rw [read_blk0, read_blk1]
  exact payProd_apply _ _ a b

/-- Going back by every distance meets every device once. -/
def backE (c : Dev nD) : Fin 32 ≃ Dev nD where
  toFun s := backBy c s
  invFun d := ⟨(c.val + (32 - d.val)) % 32, Nat.mod_lt _ (by decide)⟩
  left_inv s := Fin.ext (by
    have h : c.val < 32 := c.isLt
    have h' : s.val < 32 := s.isLt
    simp only [backBy]; omega)
  right_inv d := Fin.ext (by
    have h : c.val < 32 := c.isLt
    have h' : d.val < 32 := d.isLt
    simp only [backBy]; omega)

theorem backBy_backBy (c d : Dev nD) : backBy c (backBy c d) = d := (backE c).right_inv d
/-- The device that a slot came from sent it this device's chunk. -/
theorem ahead_back (c : Dev nD) (s : Fin 32) : aheadBy (backBy c s) s = c := Fin.ext (by
  have h : c.val < 32 := c.isLt
  have h' : s.val < 32 := s.isLt
  simp only [backBy, aheadBy]; omega)

/-- Row `p` of chunk `c`. -/
def rowOf (c : Dev nD) (p : Fin 48) : Fin 1536 := ⟨48 * c.val + p.val, by
  have h : c.val < 32 := c.isLt
  omega⟩
/-- Row `p` of half `h` of a chunk. -/
def halfRow (h : Fin 2) (p : Fin 24) : Fin 48 := ⟨24 * h.val + p.val, by omega⟩

theorem gathC_apply (c : Dev nD) (s : Fin 32) (p : Fin 48) (q : Fin 1536) :
    gathC m c (ix3 s p q) = prodC m (backBy c s) (ix2 (rowOf c p) q) := by
  show payStage (chunk (aheadBy (backBy c s) s) (prodC m (backBy c s))) (ix3 (0 : Fin 1) p q) = _
  rw [payStage_apply, ahead_back]
  rfl

/-- The sum that device `c` takes of a half. -/
theorem sum_half (c : Dev nD) (h : Fin 2) (p : Fin 24) (q : Fin 1536) :
    paySum (halfAll h (gathC m c)) (ix2 p q) = total m (ix2 (rowOf c (halfRow h p)) q) := by
  rw [paySum_apply]
  refine Eq.trans (Finset.sum_congr rfl fun s _ => ?_) (Equiv.sum_comp (backE c) fun d => (prodC m d (ix2 (rowOf c (halfRow h p)) q) : EReal))
  exact gathC_apply m c s (halfRow h p) q

theorem redC_apply (c : Dev nD) (h : Fin 2) (p : Fin 24) (q : Fin 1536) :
    redC m c (ix2 (halfRow h p) q) = total m (ix2 (rowOf c (halfRow h p)) q) := by
  have e1 : ∀ w, (⟨(halfRow h p).val / 24, w⟩ : Fin 2) = h := fun _ => Fin.ext (by simp only [halfRow]; omega)
  have e2 : ∀ w, (⟨(halfRow h p).val % 24, w⟩ : Fin 24) = p := fun _ => Fin.ext (by simp only [halfRow]; omega)
  rw [← sum_half, ← payRed_apply]
  show payRed (halfAll ⟨(halfRow h p).val / 24, _⟩ (gathC m c)) (ix2 ⟨(halfRow h p).val % 24, _⟩ q) = _
  exact congrArg₂ (fun x y => payRed (halfAll x (gathC m c)) (ix2 y q)) (e1 _) (e2 _)

/-- Every device's result is the sum over the mesh. -/
theorem outC_apply (c : Dev nD) (a b : Fin 1536) : outC m c (ix2 a b) = total m (ix2 a b) := by
  have hrow : ∀ (d : Dev nD), d.val = a.val / 48 →
      rowOf d (halfRow ⟨a.val / 24 % 2, Nat.mod_lt _ (by decide)⟩ ⟨a.val % 24, Nat.mod_lt _ (by decide)⟩) = a := fun d hd => Fin.ext (by
    simp only [rowOf, halfRow, hd]; omega)
  show (if a.val / 48 = c.val then paySum (halfAll ⟨a.val / 24 % 2, Nat.mod_lt _ (by decide)⟩ (gathC m c)) (ix2 ⟨a.val % 24, Nat.mod_lt _ (by decide)⟩ b)
    else payOut (halfOf (backBy c ⟨a.val / 48, by omega⟩) ⟨a.val / 24 % 2, Nat.mod_lt _ (by decide)⟩ (bcastC m c)) (ix2 ⟨a.val % 24, Nat.mod_lt _ (by decide)⟩ b)) = _
  split
  · next h => rw [sum_half, hrow c h.symm]
  · rw [payOut_apply]
    show redC m (backBy c (backBy c ⟨a.val / 48, _⟩)) (ix2 (halfRow ⟨a.val / 24 % 2, Nat.mod_lt _ (by decide)⟩ ⟨a.val % 24, Nat.mod_lt _ (by decide)⟩) b) = _
    rw [backBy_backBy, redC_apply, hrow _ rfl]

/-! ## Against the product of the whole arrays -/

/-- The sum over the mesh of the blocks' products is the whole arrays' product. -/
theorem total_eq (A : Vec Ideal ⟨2, ![1536, 24576]⟩ .f32) (B : Vec Ideal ⟨2, ![24576, 1536]⟩ .f32)
    (hA : ∀ c, argA m c = Layout.block ⟨2, ![1536, 768]⟩ ⟨2, ![1536, 24576]⟩ 1 32 c A)
    (hB : ∀ c, argB m c = Layout.block ⟨2, ![768, 1536]⟩ ⟨2, ![24576, 1536]⟩ 0 32 c B) (a b : Fin 1536) :
    total m (ix2 a b) = ∑ k : Fin 24576, (A (ix2 a k) : EReal) * B (ix2 k b) := by
  have hk : ∀ (d : Fin 32) (k : Fin 768), d.val * 768 + k.val = (finProdFinEquiv (d, k) : Fin (32 * 768)).val := fun d k => by
    show _ = k.val + 768 * d.val
    omega
  refine Eq.trans (Finset.sum_congr rfl fun d _ => prodC_apply m d a b) ?_
  refine Eq.trans ?_ (Equiv.sum_comp (finProdFinEquiv (m := 32) (n := 768)) fun k => (A (ix2 a k) : EReal) * B (ix2 k b))
  rw [Fintype.sum_prod_type]
  refine Finset.sum_congr rfl fun d _ => Finset.sum_congr rfl fun k _ => ?_
  rw [hA, hB]
  refine congrArg₂ (fun x y : EReal => x * y) (congrArg A (funext fun x => Fin.ext ?_)) (congrArg B (funext fun x => Fin.ext ?_))
  · match x with
    | ⟨0, _⟩ => rfl
    | ⟨1, _⟩ => exact hk d k
  · match x with
    | ⟨0, _⟩ => exact hk d k
    | ⟨1, _⟩ => rfl

/-- So every device ends with the reference's result. -/
theorem outC_eq [Cert.ReferenceIdeal.Facts] (A : Vec Ideal ⟨2, ![1536, 24576]⟩ .f32) (B : Vec Ideal ⟨2, ![24576, 1536]⟩ .f32)
    (hA : ∀ c, argA m c = Layout.block ⟨2, ![1536, 768]⟩ ⟨2, ![1536, 24576]⟩ 1 32 c A)
    (hB : ∀ c, argB m c = Layout.block ⟨2, ![768, 1536]⟩ ⟨2, ![24576, 1536]⟩ 0 32 c B) (c : Dev nD) :
    outC m c = (show FVec Ideal S1536x1536 .f32 from
      Host.dotGeneral (F := Ideal) (φ₁ := .f32) (φ₂ := .f32) Cert.ReferenceIdeal.dot_S1536x24576_S24576x1536_S1536x1536_1_0_0_1_n_n none A B) := by
  refine funext fun i => ?_
  obtain ⟨a, b, rfl⟩ : ∃ (a b : Fin 1536), i = ix2 a b := ⟨i 0, i 1, eq_ix2 i⟩
  refine (outC_apply m c a b).trans ((total_eq m A B hA hB a b).trans ?_)
  exact (StackMember.dotGeneral_plain_apply (m := 1536) (n := 1536) (k := 24576) none A B a b).symm

end Cert.AllReduce

end
-- ==== Proof.lean ====
/- The five claims: each program's run read back, and the ideal kernel's result identified with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The two programs have one text. -/
theorem defs_eq {F : FTy → Type} [FloatOps F] : Cert.Kernel.defs (F := F) = Cert.KernelIdeal.defs (F := F) := by chain_rfl

/-- The kernel ends, its operands unchanged and every counter at zero: its run is proved for any float values. -/
theorem frame_kernel : Cert.quiescent_Kernel := fun m ρ _ => by
  rw [defs_eq]
  exact Cert.AllReduce.run_frame (F := Bits) m ρ

/-- So does the ideal kernel. -/
theorem frame_kernelIdeal : Cert.quiescent_KernelIdeal := fun m ρ _ => Cert.AllReduce.run_frame (F := Ideal) m ρ

/-- The reference has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel's result is the reference's, at the extended reals. -/
theorem value : Cert.algebraic_KernelIdeal_ReferenceIdeal := fun m ρ m' ρ' _ hm =>
  ⟨_, (θ_run Cert.KernelIdeal.defs _ _).mono
      (fun _ h c => ⟨(h.1 c).1.trans (Cert.AllReduce.outC_eq m _ _ (fun d => (hm d).1) (fun d => (hm d).2) c), (h.1 c).2⟩)
      (Cert.AllReduce.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
